-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_exact_product [hPre_exact_product : Cert.Pre_exact_product.Facts] (m : (ℓ : Loc Cert.KernelIdeal.nD Cert.KernelIdeal.τ Cert.KernelIdeal.sig) → Buf (Elt Ideal) ℓ) : Prop :=
  ∀ c : Dev Cert.KernelIdeal.nD,
    (Cert.Pre_exact_product.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_exact_product [hPre_exact_product : Cert.Pre_exact_product.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_exact_product.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_KernelIdeal_pre_exact_product [hKernelIdeal : Cert.KernelIdeal.Facts] [hPre_exact_product : Cert.Pre_exact_product.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_exact_product m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_ReferenceIdeal_pre_exact_product [hReferenceIdeal : Cert.ReferenceIdeal.Facts] [hPre_exact_product : Cert.Pre_exact_product.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_exact_product m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def preserves_Kernel_KernelIdeal : Prop :=
  IdealRules.named_const.Statement Cert.KernelIdeal.κ "half_step" .f32 0x3F008102#32 ((255 / 508 : ℝ) : EReal)

def algebraic_KernelIdeal_ReferenceIdeal_pre_exact_product [hKernelIdeal : Cert.KernelIdeal.Facts] [hReferenceIdeal : Cert.ReferenceIdeal.Facts] [hPre_exact_product : Cert.Pre_exact_product.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_exact_product m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v29) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_exact_product : Cert.Pre_exact_product.Facts),
    quiescent_Kernel (hKernel := hKernel)
    ∧ quiescent_KernelIdeal (hKernelIdeal := hKernelIdeal)
    ∧ quiescent_KernelIdeal_pre_exact_product (hKernelIdeal := hKernelIdeal) (hPre_exact_product := hPre_exact_product)
    ∧ quiescent_ReferenceIdeal (hReferenceIdeal := hReferenceIdeal)
    ∧ quiescent_ReferenceIdeal_pre_exact_product (hReferenceIdeal := hReferenceIdeal) (hPre_exact_product := hPre_exact_product)
    ∧ preserves_Kernel_KernelIdeal
    ∧ algebraic_KernelIdeal_ReferenceIdeal_pre_exact_product (hKernelIdeal := hKernelIdeal) (hReferenceIdeal := hReferenceIdeal) (hPre_exact_product := hPre_exact_product)
-- ==== Pre_exact_product.lean ====
abbrev S10000x256 : Shape := ⟨2, ![10000, 256]⟩
abbrev S10000x10000 : Shape := ⟨2, ![10000, 10000]⟩
abbrev S256x128 : Shape := ⟨2, ![256, 128]⟩
abbrev S128x64 : Shape := ⟨2, ![128, 64]⟩
abbrev S10000x128 : Shape := ⟨2, ![10000, 128]⟩
abbrev S_ : Shape := ⟨0, ![]⟩
abbrev S10000x64 : Shape := ⟨2, ![10000, 64]⟩
abbrev S64 : Shape := ⟨1, ![64]⟩
abbrev S1x64 : Shape := ⟨2, ![1, 64]⟩

class Facts : Prop where
  bcast_S_S10000x128 : S_.BroadcastsInDim S10000x128 (![] : Fin 0 → Fin S10000x128.rank)
  bcast_S_S10000x10000 : S_.BroadcastsInDim S10000x10000 (![] : Fin 0 → Fin S10000x10000.rank)
  natLt_8_32 : 8 < 32
  reducesTo_S10000x64_S64_d0 : S10000x64.ReducesTo [0] S64
  h_S_ : 0 < S_.numel
  bcast_S64_S1x64_1 : S64.BroadcastsInDim S1x64 (![1] : Fin 1 → Fin S1x64.rank)
  bcast_S_S1x64 : S_.BroadcastsInDim S1x64 (![] : Fin 0 → Fin S1x64.rank)
  bcast_S1x64_S10000x64_0_1 : S1x64.BroadcastsInDim S10000x64 (![0, 1] : Fin 2 → Fin S10000x64.rank)
  bcast_S_S10000x64 : S_.BroadcastsInDim S10000x64 (![] : Fin 0 → Fin S10000x64.rank)
  dot_S10000x256_S256x128_S10000x128_1_0_0_1_n_n_wf : DotDims.WF S10000x256 S256x128 S10000x128 [1] [0] [0] [1] [] []
  dot_S10000x10000_S10000x128_S10000x128_1_0_0_1_n_n_wf : DotDims.WF S10000x10000 S10000x128 S10000x128 [1] [0] [0] [1] [] []
  dot_S10000x128_S128x64_S10000x64_1_0_0_1_n_n_wf : DotDims.WF S10000x128 S128x64 S10000x64 [1] [0] [0] [1] [] []
  dot_S10000x10000_S10000x64_S10000x64_1_0_0_1_n_n_wf : DotDims.WF S10000x10000 S10000x64 S10000x64 [1] [0] [0] [1] [] []

variable [Facts]

def dot_S10000x256_S256x128_S10000x128_1_0_0_1_n_n : DotDims S10000x256 S256x128 S10000x128 where
  lhsContracting := [1]
  rhsContracting := [0]
  lhsNonContracting := [0]
  rhsNonContracting := [1]
  lhsBatch := []
  rhsBatch := []
  wf := dot_S10000x256_S256x128_S10000x128_1_0_0_1_n_n_wf
def dot_S10000x10000_S10000x128_S10000x128_1_0_0_1_n_n : DotDims S10000x10000 S10000x128 S10000x128 where
  lhsContracting := [1]
  rhsContracting := [0]
  lhsNonContracting := [0]
  rhsNonContracting := [1]
  lhsBatch := []
  rhsBatch := []
  wf := dot_S10000x10000_S10000x128_S10000x128_1_0_0_1_n_n_wf
def dot_S10000x128_S128x64_S10000x64_1_0_0_1_n_n : DotDims S10000x128 S128x64 S10000x64 where
  lhsContracting := [1]
  rhsContracting := [0]
  lhsNonContracting := [0]
  rhsNonContracting := [1]
  lhsBatch := []
  rhsBatch := []
  wf := dot_S10000x128_S128x64_S10000x64_1_0_0_1_n_n_wf
def dot_S10000x10000_S10000x64_S10000x64_1_0_0_1_n_n : DotDims S10000x10000 S10000x64 S10000x64 where
  lhsContracting := [1]
  rhsContracting := [0]
  lhsNonContracting := [0]
  rhsNonContracting := [1]
  lhsBatch := []
  rhsBatch := []
  wf := dot_S10000x10000_S10000x64_S10000x64_1_0_0_1_n_n_wf
def fn_relu {F : FTy → Type} [FloatOps F] (arg0 : FVec F S10000x128 .f32) : FVec F S10000x128 .f32 :=
  let cst : FVec F S_ .f32 := constant S_ .f32 0x00000000#32
  let v0 : FVec F S10000x128 .f32 := broadcastInDim S10000x128 ![] bcast_S_S10000x128 cst
  let v1 : FVec F S10000x128 .f32 := maximumf arg0 v0
  v1

def fn_round {F : FTy → Type} [FloatOps F] (arg0 : FVec F S10000x64 .f32) : FVec F S10000x64 .f32 :=
  let v0 : FVec F S10000x64 .f32 := Host.roundeven arg0
  v0

def fn_part1 {F : FTy → Type} [FloatOps F] (main_v9 : IVec S10000x10000 8) (main_v18 : FVec F S10000x64 .f32) : IVec S10000x64 1 :=
  let main_v19 : FVec F S10000x64 .f32 := fn_round (F := F) main_v18
  let main_v20 : IVec S10000x10000 32 := (extsi 32 · natLt_8_32) main_v9
  let main_v21 : FVec F S10000x10000 .f32 := sitofp .f32 main_v20
  let main_v22 : FVec F S10000x10000 .f32 := Host.absf main_v21
  let main_v23 : FVec F S10000x64 .f32 := Host.absf main_v19
  let main_v24 : FVec F S10000x64 .f32 := (fun l r => Host.dotGeneral dot_S10000x10000_S10000x64_S10000x64_1_0_0_1_n_n none l r) main_v22 main_v23
  let main_cst_3 : FVec F S_ .f32 := constant S_ .f32 0x4C800000#32
  let main_v25 : FVec F S10000x64 .f32 := broadcastInDim S10000x64 ![] bcast_S_S10000x64 main_cst_3
  let main_v26 : IVec S10000x64 1 := cmpf .ole main_v24 main_v25
  main_v26

def fn {F : FTy → Type} [FloatOps F] (main_arg0 : FVec F S10000x256 .f32) (main_arg1 : FVec F S10000x10000 .f32) (main_arg2 : FVec F S256x128 .f32) (main_arg3 : FVec F S128x64 .f32) : IVec S10000x64 1 :=
  let main_v0 : FVec F S10000x128 .f32 := (fun l r => Host.dotGeneral dot_S10000x256_S256x128_S10000x128_1_0_0_1_n_n none l r) main_arg0 main_arg2
  let main_v1 : FVec F S10000x128 .f32 := (fun l r => Host.dotGeneral dot_S10000x10000_S10000x128_S10000x128_1_0_0_1_n_n none l r) main_arg1 main_v0
  let main_v2 : FVec F S10000x128 .f32 := fn_relu (F := F) main_v1
  let main_v3 : FVec F S10000x64 .f32 := (fun l r => Host.dotGeneral dot_S10000x128_S128x64_S10000x64_1_0_0_1_n_n none l r) main_v2 main_arg3
  let main_cst : FVec F S_ .f32 := constant S_ .f32 0x437E0000#32
  let main_v4 : FVec F S10000x10000 .f32 := broadcastInDim S10000x10000 ![] bcast_S_S10000x10000 main_cst
  let main_v5 : FVec F S10000x10000 .f32 := mulf main_arg1 main_v4
  let main_v6 : IVec S10000x10000 32 := fptosi 32 main_v5
  let main_c : IVec S_ 32 := constantI S_ 32 127#32
  let main_v7 : IVec S10000x10000 32 := broadcastInDim S10000x10000 ![] bcast_S_S10000x10000 main_c
  let main_v8 : IVec S10000x10000 32 := subi main_v6 main_v7
  let main_v9 : IVec S10000x10000 8 := (trunci 8 · natLt_8_32) main_v8
  let main_v10 : FVec F S10000x64 .f32 := Host.absf main_v3
  let main_cst_0 : FVec F S_ .f32 := constant S_ .f32 0xFF800000#32
  let main_v11 : FVec F S64 .f32 := (fun x v => Host.reduce FloatOps.maximumf x v reducesTo_S10000x64_S64_d0 h_S_) main_v10 main_cst_0
  let main_v12 : FVec F S1x64 .f32 := broadcastInDim S1x64 ![1] bcast_S64_S1x64_1 main_v11
  let main_cst_1 : FVec F S_ .f32 := constant S_ .f32 0x1E3CE508#32
  let main_v13 : FVec F S1x64 .f32 := broadcastInDim S1x64 ![] bcast_S_S1x64 main_cst_1
  let main_v14 : FVec F S1x64 .f32 := maximumf main_v12 main_v13
  let main_cst_2 : FVec F S_ .f32 := constant S_ .f32 0x42FE0000#32
  let main_v15 : FVec F S1x64 .f32 := broadcastInDim S1x64 ![] bcast_S_S1x64 main_cst_2
  let main_v16 : FVec F S1x64 .f32 := Host.divf main_v14 main_v15
  let main_v17 : FVec F S10000x64 .f32 := broadcastInDim S10000x64 ![0, 1] bcast_S1x64_S10000x64_0_1 main_v16
  let main_v18 : FVec F S10000x64 .f32 := Host.divf main_v3 main_v17
  fn_part1 (F := F) main_v9 main_v18
-- ==== Kernel.lean ====
abbrev S10000x256 : Shape := ⟨2, ![10000, 256]⟩
abbrev S10000x10000 : Shape := ⟨2, ![10000, 10000]⟩
abbrev S256x128 : Shape := ⟨2, ![256, 128]⟩
abbrev S128x64 : Shape := ⟨2, ![128, 64]⟩
abbrev S10000x64 : Shape := ⟨2, ![10000, 64]⟩
abbrev S400x10000 : Shape := ⟨2, ![400, 10000]⟩
abbrev S400x64 : Shape := ⟨2, ![400, 64]⟩
abbrev S10000x128 : Shape := ⟨2, ![10000, 128]⟩
abbrev S400x128 : Shape := ⟨2, ![400, 128]⟩
abbrev S1x64 : Shape := ⟨2, ![1, 64]⟩
abbrev S64 : Shape := ⟨1, ![64]⟩
abbrev S400 : Shape := ⟨1, ![400]⟩
abbrev S400x1 : Shape := ⟨2, ![400, 1]⟩

abbrev nBuf : Space → Nat
  | .hbm => 7
  | .vmem => 18
  | .smem => 0
  | _ => 0

abbrev bufTy : (tb : Table) → Fin (tcTables nBuf tb) → BufTy
  | .hbm, ⟨0, _⟩ => ⟨S10000x256, .f32⟩
  | .hbm, ⟨1, _⟩ => ⟨S10000x10000, .f32⟩
  | .hbm, ⟨2, _⟩ => ⟨S256x128, .f32⟩
  | .hbm, ⟨3, _⟩ => ⟨S128x64, .f32⟩
  | .hbm, ⟨4, _⟩ => ⟨S10000x64, .f32⟩
  | .hbm, ⟨5, _⟩ => ⟨S10000x10000, .i8⟩
  | .hbm, ⟨6, _⟩ => ⟨S10000x64, .f32⟩
  | .local _ .vmem, ⟨0, _⟩ => ⟨S10000x256, .f32⟩
  | .local _ .vmem, ⟨1, _⟩ => ⟨S400x10000, .f32⟩
  | .local _ .vmem, ⟨2, _⟩ => ⟨S400x10000, .f32⟩
  | .local _ .vmem, ⟨3, _⟩ => ⟨S256x128, .f32⟩
  | .local _ .vmem, ⟨4, _⟩ => ⟨S128x64, .f32⟩
  | .local _ .vmem, ⟨5, _⟩ => ⟨S400x64, .f32⟩
  | .local _ .vmem, ⟨6, _⟩ => ⟨S400x64, .f32⟩
  | .local _ .vmem, ⟨7, _⟩ => ⟨S400x10000, .i8⟩
  | .local _ .vmem, ⟨8, _⟩ => ⟨S400x10000, .i8⟩
  | .local _ .vmem, ⟨9, _⟩ => ⟨S10000x128, .f32⟩
  | .local _ .vmem, ⟨10, _⟩ => ⟨S400x10000, .i8⟩
  | .local _ .vmem, ⟨11, _⟩ => ⟨S400x10000, .i8⟩
  | .local _ .vmem, ⟨12, _⟩ => ⟨S10000x64, .f32⟩
  | .local _ .vmem, ⟨13, _⟩ => ⟨S400x64, .f32⟩
  | .local _ .vmem, ⟨14, _⟩ => ⟨S400x64, .f32⟩
  | .local _ .vmem, ⟨15, _⟩ => ⟨S10000x64, .i8⟩
  | .local _ .vmem, ⟨16, _⟩ => ⟨S1x64, .f32⟩
  | .local _ .vmem, ⟨17, _⟩ => ⟨S1x64, .f32⟩
  | _, _ => ⟨S10000x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v1 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_stg5_0 : Ref sig .tc := ⟨.vmem, 7, rfl⟩
abbrev cc0_stg5_1 : Ref sig .tc := ⟨.vmem, 8, rfl⟩
abbrev cc0_scratch0 : Ref sig .tc := ⟨.vmem, 9, rfl⟩
abbrev cc1_stg0_0 : Ref sig .tc := ⟨.vmem, 10, rfl⟩
abbrev cc1_stg0_1 : Ref sig .tc := ⟨.vmem, 11, rfl⟩
abbrev cc1_stg1_0 : Ref sig .tc := ⟨.vmem, 12, rfl⟩
abbrev cc1_stg2_0 : Ref sig .tc := ⟨.vmem, 13, rfl⟩
abbrev cc1_stg2_1 : Ref sig .tc := ⟨.vmem, 14, rfl⟩
abbrev cc1_scratch0 : Ref sig .tc := ⟨.vmem, 15, rfl⟩
abbrev cc1_scratch1 : Ref sig .tc := ⟨.vmem, 16, rfl⟩
abbrev cc1_scratch2 : Ref sig .tc := ⟨.vmem, 17, rfl⟩
abbrev cc0_sem0_0 : DmaSem sig := 0
abbrev cc0_sem1_0 : DmaSem sig := 1
abbrev cc0_sem1_1 : DmaSem sig := 2
abbrev cc0_sem2_0 : DmaSem sig := 3
abbrev cc0_sem3_0 : DmaSem sig := 4
abbrev cc0_sem4_0 : DmaSem sig := 5
abbrev cc0_sem4_1 : DmaSem sig := 6
abbrev cc0_sem5_0 : DmaSem sig := 7
abbrev cc0_sem5_1 : DmaSem sig := 8
abbrev cc1_sem0_0 : DmaSem sig := 9
abbrev cc1_sem0_1 : DmaSem sig := 10
abbrev cc1_sem1_0 : DmaSem sig := 11
abbrev cc1_sem2_0 : DmaSem sig := 12
abbrev cc1_sem2_1 : DmaSem sig := 13

abbrev nD : Nat := 1
abbrev τ : Topo := Topo.v5e

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S10000x256 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S400x10000 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S256x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S128x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S400x64 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S400x10000 .i8 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev grid1 : Pipeline.Grid := ⟨1, ![25], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S400x10000 .i8 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S10000x64 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S400x64 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]
-- ==== KernelIdeal.lean ====
variable {F : FTy → Type} [FloatOps F] [Named F]
def κ : String → Option EReal := fun
  | "half_step" => some ((255 / 508 : ℝ) : EReal)
  | _ => none
-- ==== ReferenceIdeal.lean ====
abbrev S10000x256 : Shape := ⟨2, ![10000, 256]⟩
abbrev S10000x10000 : Shape := ⟨2, ![10000, 10000]⟩
abbrev S256x128 : Shape := ⟨2, ![256, 128]⟩
abbrev S128x64 : Shape := ⟨2, ![128, 64]⟩
abbrev S10000x128 : Shape := ⟨2, ![10000, 128]⟩
abbrev S_ : Shape := ⟨0, ![]⟩
abbrev S10000x64 : Shape := ⟨2, ![10000, 64]⟩
abbrev S64 : Shape := ⟨1, ![64]⟩
abbrev S1x64 : Shape := ⟨2, ![1, 64]⟩
abbrev S10000 : Shape := ⟨1, ![10000]⟩
abbrev S10000x1 : Shape := ⟨2, ![10000, 1]⟩

abbrev nBuf : Space → Nat
  | .hbm => 57
  | .vmem => 0
  | .smem => 0
  | _ => 0

abbrev bufTy : (tb : Table) → Fin (tcTables nBuf tb) → BufTy
  | .hbm, ⟨0, _⟩ => ⟨S10000x256, .f32⟩
  | .hbm, ⟨1, _⟩ => ⟨S10000x10000, .f32⟩
  | .hbm, ⟨2, _⟩ => ⟨S256x128, .f32⟩
  | .hbm, ⟨3, _⟩ => ⟨S128x64, .f32⟩
  | .hbm, ⟨4, _⟩ => ⟨S10000x128, .f32⟩
  | .hbm, ⟨5, _⟩ => ⟨S10000x128, .f32⟩
  | .hbm, ⟨6, _⟩ => ⟨S_, .f32⟩
  | .hbm, ⟨7, _⟩ => ⟨S10000x128, .f32⟩
  | .hbm, ⟨8, _⟩ => ⟨S10000x128, .f32⟩
  | .hbm, ⟨9, _⟩ => ⟨S10000x64, .f32⟩
  | .hbm, ⟨10, _⟩ => ⟨S_, .f32⟩
  | .hbm, ⟨11, _⟩ => ⟨S10000x10000, .f32⟩
  | .hbm, ⟨12, _⟩ => ⟨S10000x10000, .f32⟩
  | .hbm, ⟨13, _⟩ => ⟨S10000x10000, .i32⟩
  | .hbm, ⟨14, _⟩ => ⟨S_, .i32⟩
  | .hbm, ⟨15, _⟩ => ⟨S10000x10000, .i32⟩
  | .hbm, ⟨16, _⟩ => ⟨S10000x10000, .i32⟩
  | .hbm, ⟨17, _⟩ => ⟨S10000x10000, .i8⟩
  | .hbm, ⟨18, _⟩ => ⟨S10000x10000, .i32⟩
  | .hbm, ⟨19, _⟩ => ⟨S10000x10000, .f32⟩
  | .hbm, ⟨20, _⟩ => ⟨S_, .f32⟩
  | .hbm, ⟨21, _⟩ => ⟨S10000x10000, .f32⟩
  | .hbm, ⟨22, _⟩ => ⟨S10000x10000, .f32⟩
  | .hbm, ⟨23, _⟩ => ⟨S_, .f32⟩
  | .hbm, ⟨24, _⟩ => ⟨S10000x10000, .f32⟩
  | .hbm, ⟨25, _⟩ => ⟨S10000x10000, .f32⟩
  | .hbm, ⟨26, _⟩ => ⟨S10000x64, .f32⟩
  | .hbm, ⟨27, _⟩ => ⟨S_, .f32⟩
  | .hbm, ⟨28, _⟩ => ⟨S64, .f32⟩
  | .hbm, ⟨29, _⟩ => ⟨S1x64, .f32⟩
  | .hbm, ⟨30, _⟩ => ⟨S_, .f32⟩
  | .hbm, ⟨31, _⟩ => ⟨S1x64, .f32⟩
  | .hbm, ⟨32, _⟩ => ⟨S1x64, .f32⟩
  | .hbm, ⟨33, _⟩ => ⟨S_, .f32⟩
  | .hbm, ⟨34, _⟩ => ⟨S1x64, .f32⟩
  | .hbm, ⟨35, _⟩ => ⟨S1x64, .f32⟩
  | .hbm, ⟨36, _⟩ => ⟨S10000x64, .f32⟩
  | .hbm, ⟨37, _⟩ => ⟨S10000x64, .f32⟩
  | .hbm, ⟨38, _⟩ => ⟨S10000x64, .f32⟩
  | .hbm, ⟨39, _⟩ => ⟨S10000x64, .f32⟩
  | .hbm, ⟨40, _⟩ => ⟨S10000x64, .f32⟩
  | .hbm, ⟨41, _⟩ => ⟨S10000x64, .f32⟩
  | .hbm, ⟨42, _⟩ => ⟨S_, .f32⟩
  | .hbm, ⟨43, _⟩ => ⟨S10000, .f32⟩
  | .hbm, ⟨44, _⟩ => ⟨S_, .f32⟩
  | .hbm, ⟨45, _⟩ => ⟨S10000, .f32⟩
  | .hbm, ⟨46, _⟩ => ⟨S10000, .f32⟩
  | .hbm, ⟨47, _⟩ => ⟨S10000x1, .f32⟩
  | .hbm, ⟨48, _⟩ => ⟨S10000x64, .f32⟩
  | .hbm, ⟨49, _⟩ => ⟨S10000x64, .f32⟩
  | .hbm, ⟨50, _⟩ => ⟨S10000x64, .f32⟩
  | .hbm, ⟨51, _⟩ => ⟨S_, .f32⟩
  | .hbm, ⟨52, _⟩ => ⟨S10000, .f32⟩
  | .hbm, ⟨53, _⟩ => ⟨S10000x1, .f32⟩
  | .hbm, ⟨54, _⟩ => ⟨S10000x1, .f32⟩
  | .hbm, ⟨55, _⟩ => ⟨S10000x64, .f32⟩
  | .hbm, ⟨56, _⟩ => ⟨S10000x64, .f32⟩
  | _, _ => ⟨S10000x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_call0_cst : Ref sig .tc := ⟨.hbm, 6, rfl⟩
abbrev main_call0_v0 : Ref sig .tc := ⟨.hbm, 7, rfl⟩
abbrev main_v2 : Ref sig .tc := ⟨.hbm, 8, rfl⟩
abbrev main_v3 : Ref sig .tc := ⟨.hbm, 9, rfl⟩
abbrev main_cst : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_c : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_cst_0 : Ref sig .tc := ⟨.hbm, 20, rfl⟩
abbrev main_v12 : Ref sig .tc := ⟨.hbm, 21, rfl⟩
abbrev main_v13 : Ref sig .tc := ⟨.hbm, 22, rfl⟩
abbrev main_cst_1 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_cst_2 : Ref sig .tc := ⟨.hbm, 27, rfl⟩
abbrev main_v17 : Ref sig .tc := ⟨.hbm, 28, rfl⟩
abbrev main_v18 : Ref sig .tc := ⟨.hbm, 29, rfl⟩
abbrev main_cst_3 : Ref sig .tc := ⟨.hbm, 30, rfl⟩
abbrev main_v19 : Ref sig .tc := ⟨.hbm, 31, rfl⟩
abbrev main_v20 : Ref sig .tc := ⟨.hbm, 32, rfl⟩
abbrev main_cst_4 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_call2_cst : Ref sig .tc := ⟨.hbm, 42, rfl⟩
abbrev main_call2_v0 : Ref sig .tc := ⟨.hbm, 43, rfl⟩
abbrev main_call2_cst_0 : Ref sig .tc := ⟨.hbm, 44, rfl⟩
abbrev main_call2_v1 : Ref sig .tc := ⟨.hbm, 45, rfl⟩
abbrev main_call2_v2 : Ref sig .tc := ⟨.hbm, 46, rfl⟩
abbrev main_call2_v3 : Ref sig .tc := ⟨.hbm, 47, rfl⟩
abbrev main_call2_v4 : Ref sig .tc := ⟨.hbm, 48, rfl⟩
abbrev main_call2_v5 : Ref sig .tc := ⟨.hbm, 49, rfl⟩
abbrev main_call2_v6 : Ref sig .tc := ⟨.hbm, 50, rfl⟩
abbrev main_call2_cst_1 : Ref sig .tc := ⟨.hbm, 51, rfl⟩
abbrev main_call2_v7 : Ref sig .tc := ⟨.hbm, 52, rfl⟩
abbrev main_call2_v8 : Ref sig .tc := ⟨.hbm, 53, rfl⟩
abbrev main_call2_v9 : Ref sig .tc := ⟨.hbm, 54, rfl⟩
abbrev main_call2_v10 : Ref sig .tc := ⟨.hbm, 55, rfl⟩
abbrev main_v29 : Ref sig .tc := ⟨.hbm, 56, rfl⟩

abbrev nD : Nat := 1
abbrev τ : Topo := Topo.v5e

variable {F : FTy → Type} [FloatOps F]
-- ==== Proof.SameProgram.lean ====
/-
  The printed kernel and its idealisation differ in one constant, which the idealisation calls by a name. Read at the
  floats' words, where a name stands for the constant's own word, they have one table of bodies: label by label the
  bodies are the same term.
-/
module

public import proofs.«01_k».proof.Kernel
public import proofs.«01_k».proof.KernelIdeal
public import proofs.«01_k».proof.Proof.Gen.Kernel
public import proofs.«01_k».proof.Proof.Gen.KernelIdeal
public import Idealize.ShloMosaic.PureOps.BitExact

@[expose] public section

set_option maxRecDepth 16384

noncomputable section

namespace Cert.Proof.Same

open Idealize.ShloMosaic

/-- At the floats' words a named constant is its own word. -/
@[reducible] def ownWord : Named Bits where
  named _ _ {φ} bits := FloatOps.ofBits φ bits

attribute [local instance] ownWord

theorem bodies : Cert.Kernel.defs₀ (F := Bits) = Cert.KernelIdeal.defs₀ (F := Bits) := by
  funext κ l a
  cases κ
  · match l, a with
    | 0, (t, s) => rfl
    | 1, (t, s) => rfl
  all_goals rfl

theorem table : Cert.Kernel.defs (F := Bits) = Cert.KernelIdeal.defs (F := Bits) :=
  congrArg (Pipeline.defs Cert.KernelIdeal.pcfgs) bodies

end Cert.Proof.Same
-- ==== Proof.Pass1Body.lean ====
/-
  The first pass's body, run by the executor: at the first grid point it fills the carried scratch with `x @ W1`, and
  at every point it leaves the block's rows of the hidden product and of the integer codes.
-/
module

public import proofs.«01_k».proof.Proof.Gen.KernelIdeal.Skeleton
public import proofs.«01_k».proof.Proof.Gen.KernelIdeal.Launch
public import proofs.«01_k».proof.Proof.Gen.KernelIdeal.Points
public import Idealize.ShloMosaic.Lib.Pipeline.Frame
public import Idealize.ShloMosaic.Lib.Pipeline.FrameBody
public import Idealize.ShloMosaic.Lib.VecWindow
public import Idealize.ShloMosaic.Lib.Tactic
public import Idealize.ShloMosaic.Lib.WordCmp

@[expose] public section

set_option maxRecDepth 16384

noncomputable section

namespace Cert.Proof.Pass1

open Cert.KernelIdeal Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]

local notation "𝕄" => MT nD τ sig Unit (Elt F) ℕ (UR sig nD τ) ℕ

/-- The body's branch condition: the grid coordinate is zero. -/
abbrev first (i : grid0.Coords) : Prop :=
  (Scalar.cmpi .ne (Scalar.extui (Scalar.cmpi .eq (BitVec.ofNat 32 (i 0).val) 0#32)) 0#32) = 1#1

/-- The branch is taken at the first point only. -/
theorem first_iff (t : Fin cfg0.N) : first (grid0.coords t) ↔ t.val = 0 := by
  have ht : t.val < 25 := Nat.lt_of_lt_of_eq t.isLt N_0
  have e0 : (grid0.coords t 0).val = t.val / 1 % 25 := Pipeline.Grid.coords_val t 0 (by decide) rfl
  have h : first (grid0.coords t) ↔ t.val % 25 = 0 := by
    simp only [first, e0]
    word_cmp
  rw [h]; omega

set_option maxHeartbeats 1000000 in
/-- The body where the branch is taken: the scratch is filled first, whatever it held. -/
theorem run_first (c : Dev nD) (i : grid0.Coords)
    (arg1 : Memref sig .tc .vmem S10000x256 .f32) (harg1 : arg1.IsWhole) (arg2 : Memref sig .tc .vmem S400x10000 .f32) (harg2 : arg2.IsWhole)
    (arg3 : Memref sig .tc .vmem S256x128 .f32) (harg3 : arg3.IsWhole) (arg4 : Memref sig .tc .vmem S128x64 .f32) (harg4 : arg4.IsWhole)
    (arg5 : Memref sig .tc .vmem S400x64 .f32) (harg5 : arg5.IsWhole) (arg6 : Memref sig .tc .vmem S400x10000 .i8) (harg6 : arg6.IsWhole)
    (arg7 : Memref sig .tc .vmem S10000x128 .f32) (harg7 : arg7.IsWhole) (hc : first i)
    (x : Vec F S10000x256 .f32) (a : Vec F S400x10000 .f32) (w1 : Vec F S256x128 .f32) (w2 : Vec F S128x64 .f32)
    (E : Set ℕ) (K : PUnit → sProp 𝕄) :
    iprop(owns (c : Thread nD τ) arg1 fullShare x ∗ owns (c : Thread nD τ) arg2 fullShare a ∗ owns (c : Thread nD τ) arg3 fullShare w1 ∗ owns (c : Thread nD τ) arg4 fullShare w2
        ∗ (∃ d, owns (c : Thread nD τ) arg5 fullShare d) ∗ (∃ d, owns (c : Thread nD τ) arg6 fullShare d) ∗ (∃ d, owns (c : Thread nD τ) arg7 fullShare d)
        ∗ (iprop(owns (c : Thread nD τ) arg1 fullShare x ∗ owns (c : Thread nD τ) arg2 fullShare a ∗ owns (c : Thread nD τ) arg3 fullShare w1 ∗ owns (c : Thread nD τ) arg4 fullShare w2
            ∗ owns (c : Thread nD τ) arg5 fullShare (k0_pay2 a (k0_pay1 x w1) w2) ∗ owns (c : Thread nD τ) arg6 fullShare (k0_pay3 a)
            ∗ owns (c : Thread nD τ) arg7 fullShare (k0_pay1 x w1)) -∗ K ⟨⟩))
      ⊢ wp frame (wpE (defs₀ (F := F)) Variants.none c none) E (cc0__pass1_kernel i arg1 harg1 arg2 harg2 arg3 harg3 arg4 harg4 arg5 harg5 arg6 harg6 arg7 harg7) K := by
  simp only [cc0__pass1_kernel_eq_skeleton]; unfold cc0__pass1_kernel_skel
  unfold owns
  iintro ⟨⟨%f1, %hf1, H1⟩, ⟨%f2, %hf2, H2⟩, ⟨%f3, %hf3, H3⟩, ⟨%f4, %hf4, H4⟩, ⟨%d5, %f5, -, H5⟩, ⟨%d6, %f6, -, H6⟩, ⟨%d7, %f7, -, H7⟩, Hk⟩
  obtain rfl := harg1.eq_unread hf1; obtain rfl := harg2.eq_unread hf2
  obtain rfl := harg3.eq_unread hf3; obtain rfl := harg4.eq_unread hf4
  sl_exec (disch := first | sl_exact hc)
  sl_step
  iapply Hk
  isplitl [H1]
  · iexists _; isplitr; · ipureintro; exact harg1.read_unread _
    iexact H1
  isplitl [H2]
  · iexists _; isplitr; · ipureintro; exact harg2.read_unread _
    iexact H2
  isplitl [H3]
  · iexists _; isplitr; · ipureintro; exact harg3.read_unread _
    iexact H3
  isplitl [H4]
  · iexists _; isplitr; · ipureintro; exact harg4.read_unread _
    iexact H4
  isplitl [H5]
  · iexists _; isplitr; swap; · iexact H5
    ipureintro
    unfold run_first.sl.v4
    unfold run_first.sl.H7_1
    rw [View.read_writes_full, View.readAt_full, View.readAt_full, View.readCov_full, View.readAt_full, View.readAt_full,
      hf1, hf2, hf3, hf4]
  isplitl [H6]
  · iexists _; isplitr; swap; · iexact H6
    ipureintro
    rw [View.read_writes_full, View.readAt_full, hf2]
  iexists _; isplitr; swap; · iexact H7
  ipureintro
  unfold run_first.sl.H7_1
  rw [View.read_writes_full, View.readAt_full, View.readAt_full, hf1, hf3]

set_option maxHeartbeats 1000000 in
/-- The body where the branch is not taken: the scratch is read as it stands. -/
theorem run_later (c : Dev nD) (i : grid0.Coords)
    (arg1 : Memref sig .tc .vmem S10000x256 .f32) (harg1 : arg1.IsWhole) (arg2 : Memref sig .tc .vmem S400x10000 .f32) (harg2 : arg2.IsWhole)
    (arg3 : Memref sig .tc .vmem S256x128 .f32) (harg3 : arg3.IsWhole) (arg4 : Memref sig .tc .vmem S128x64 .f32) (harg4 : arg4.IsWhole)
    (arg5 : Memref sig .tc .vmem S400x64 .f32) (harg5 : arg5.IsWhole) (arg6 : Memref sig .tc .vmem S400x10000 .i8) (harg6 : arg6.IsWhole)
    (arg7 : Memref sig .tc .vmem S10000x128 .f32) (harg7 : arg7.IsWhole) (hc : ¬first i)
    (x : Vec F S10000x256 .f32) (a : Vec F S400x10000 .f32) (w1 : Vec F S256x128 .f32) (w2 : Vec F S128x64 .f32) (g : Vec F S10000x128 .f32)
    (E : Set ℕ) (K : PUnit → sProp 𝕄) :
    iprop(owns (c : Thread nD τ) arg1 fullShare x ∗ owns (c : Thread nD τ) arg2 fullShare a ∗ owns (c : Thread nD τ) arg3 fullShare w1 ∗ owns (c : Thread nD τ) arg4 fullShare w2
        ∗ (∃ d, owns (c : Thread nD τ) arg5 fullShare d) ∗ (∃ d, owns (c : Thread nD τ) arg6 fullShare d) ∗ owns (c : Thread nD τ) arg7 fullShare g
        ∗ (iprop(owns (c : Thread nD τ) arg1 fullShare x ∗ owns (c : Thread nD τ) arg2 fullShare a ∗ owns (c : Thread nD τ) arg3 fullShare w1 ∗ owns (c : Thread nD τ) arg4 fullShare w2
            ∗ owns (c : Thread nD τ) arg5 fullShare (k0_pay2 a g w2) ∗ owns (c : Thread nD τ) arg6 fullShare (k0_pay3 a)
            ∗ owns (c : Thread nD τ) arg7 fullShare g) -∗ K ⟨⟩))
      ⊢ wp frame (wpE (defs₀ (F := F)) Variants.none c none) E (cc0__pass1_kernel i arg1 harg1 arg2 harg2 arg3 harg3 arg4 harg4 arg5 harg5 arg6 harg6 arg7 harg7) K := by
  simp only [cc0__pass1_kernel_eq_skeleton]; unfold cc0__pass1_kernel_skel
  unfold owns
  iintro ⟨⟨%f1, %hf1, H1⟩, ⟨%f2, %hf2, H2⟩, ⟨%f3, %hf3, H3⟩, ⟨%f4, %hf4, H4⟩, ⟨%d5, %f5, -, H5⟩, ⟨%d6, %f6, -, H6⟩, ⟨%f7, %hf7, H7⟩, Hk⟩
  obtain rfl := harg1.eq_unread hf1; obtain rfl := harg2.eq_unread hf2
  obtain rfl := harg3.eq_unread hf3; obtain rfl := harg4.eq_unread hf4
  obtain rfl := harg7.eq_unread hf7
  sl_exec (disch := first | sl_exact hc)
  sl_step
  iapply Hk
  isplitl [H1]
  · iexists _; isplitr; · ipureintro; exact harg1.read_unread _
    iexact H1
  isplitl [H2]
  · iexists _; isplitr; · ipureintro; exact harg2.read_unread _
    iexact H2
  isplitl [H3]
  · iexists _; isplitr; · ipureintro; exact harg3.read_unread _
    iexact H3
  isplitl [H4]
  · iexists _; isplitr; · ipureintro; exact harg4.read_unread _
    iexact H4
  isplitl [H5]
  · iexists _; isplitr; swap; · iexact H5
    ipureintro
    rw [View.read_writes_full, View.readAt_full, View.readAt_full, View.readAt_full, hf2, hf4, hf7]
  isplitl [H6]
  · iexists _; isplitr; swap; · iexact H6
    ipureintro
    rw [View.read_writes_full, View.readAt_full, hf2]
  iexists _; isplitr; · ipureintro; exact harg7.read_unread _
  iexact H7

end Cert.Proof.Pass1

end
-- ==== Proof.Pass1Data.lean ====
/-
  The first pass as a pipeline region, entered from any contents of the unscoped buffers: its data, its body obligation,
  and how the scoped buffers enter and leave its invariant.
-/
module

public import proofs.«01_k».proof.Proof.Pass1Body
public import Idealize.ShloMosaic.Lib.Pipeline.Regions

@[expose] public section

set_option maxRecDepth 16384

noncomputable section

namespace Cert.Proof.Pass1

open Cert.KernelIdeal Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

-- the unscoped buffers' contents when the region is entered
variable (V : (c : Dev nD) → (b : Ref sig .tc) → Buf (Elt F) ((c : Thread nD τ).loc b))

/-- Window `w`'s block at point `t`, read off its array as the region finds it. -/
def blk (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The first grid point. -/
abbrev pt0 : Fin cfg0.N := ⟨0, Nat.lt_of_lt_of_eq (by decide : 0 < 25) N_0.symm⟩

/-- What the first point stores in the scratch. -/
def G (c : Dev nD) : Vec F S10000x128 .f32 := k0_pay1 (blk V c 0 pt0) (blk V c 2 pt0)

/-- The scoped buffers this region neither stages nor uses, each at some contents. -/
def rest (c : Dev nD) : sProp 𝕄 :=
  iprop((∃ f : Buf (Elt F) ((c : Thread nD τ).loc cc1_stg0_0), ((c : Thread nD τ).loc cc1_stg0_0) ↦{fullShare} f) ∗ (∃ f : Buf (Elt F) ((c : Thread nD τ).loc cc1_stg0_1), ((c : Thread nD τ).loc cc1_stg0_1) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc1_stg2_1), ((c : Thread nD τ).loc cc1_stg2_1) ↦{fullShare} f) ∗ (∃ f : Buf (Elt F) ((c : Thread nD τ).loc cc1_scratch0), ((c : Thread nD τ).loc cc1_scratch0) ↦{fullShare} f) ∗ (∃ f : Buf (Elt F) ((c : Thread nD τ).loc cc1_scratch1), ((c : Thread nD τ).loc cc1_scratch1) ↦{fullShare} f) ∗ (∃ f : Buf (Elt F) ((c : Thread nD τ).loc cc1_scratch2), ((c : Thread nD τ).loc cc1_scratch2) ↦{fullShare} f))

/-- What the carried scratch holds before point `n`: anything at first, what the first point stored in it afterwards. -/
def scr (c : Dev nD) (n : ℕ) : sProp 𝕄 :=
  if n = 0 then iprop((∃ d, owns (c : Thread nD τ) (Memref.whole cc0_scratch0) fullShare d))
  else iprop(owns (c : Thread nD τ) (Memref.whole cc0_scratch0) fullShare (G V c))

/-- The region's data: the arrays as found; after the body an input's buffer at its block and an output's at what
    the body computes from the blocks; between points the scratch and the untouched scoped buffers; nothing owed. -/
def dat (c : Dev nD) : Dat τ (Elt F) Unit ℕ (UR sig nD τ) ℕ cfg0 c where
  A w := V c (Pipeline.arrRef spec0 w)
  after w t := match w with
    | ⟨0, _⟩ => blk V c 0 t
    | ⟨1, _⟩ => blk V c 1 t
    | ⟨2, _⟩ => blk V c 2 t
    | ⟨3, _⟩ => blk V c 3 t
    | ⟨4, _⟩ => k0_pay2 (blk V c 1 t) (G V c) (blk V c 3 t)
    | ⟨5, _⟩ => k0_pay3 (blk V c 1 t)
  Φ t := iprop(scr V c t.val ∗ rest c)
  q _ := fullShare
  owed _ := 0

theorem A_eq (c : Dev nD) (w : Fin cfg0.W) : (dat V c).A w = V c (Pipeline.arrRef spec0 w) := by
  dsimp only [dat]

theorem after_0 (c : Dev nD) (t : Fin cfg0.N) : (dat V c).after 0 t = blk V c 0 t := by dsimp only [dat]
theorem after_1 (c : Dev nD) (t : Fin cfg0.N) : (dat V c).after 1 t = blk V c 1 t := by dsimp only [dat]
theorem after_2 (c : Dev nD) (t : Fin cfg0.N) : (dat V c).after 2 t = blk V c 2 t := by dsimp only [dat]
theorem after_3 (c : Dev nD) (t : Fin cfg0.N) : (dat V c).after 3 t = blk V c 3 t := by dsimp only [dat]
theorem after_4 (c : Dev nD) (t : Fin cfg0.N) : (dat V c).after 4 t = k0_pay2 (blk V c 1 t) (G V c) (blk V c 3 t) := by dsimp only [dat]
theorem after_5 (c : Dev nD) (t : Fin cfg0.N) : (dat V c).after 5 t = k0_pay3 (blk V c 1 t) := by dsimp only [dat]

/-- An input's staging buffer holds its block at every point, fetched there or not. -/
theorem before_0 (c : Dev nD) (t : Fin cfg0.N) (d) : (dat V c).before 0 t d = blk V c 0 t :=
  ((dat V c).before_in_eq_fetched 0 rfl (fun _ => rfl) (fun _ _ _ => rfl)
    (fun t => by rw [after_0]; unfold Dat.blockOf blk; rw [A_eq]) t d).trans
    (by unfold Dat.fetched Dat.blockOf blk; rw [A_eq]; try rfl)
theorem before_1 (c : Dev nD) (t : Fin cfg0.N) (d) : (dat V c).before 1 t d = blk V c 1 t :=
  ((dat V c).before_in_eq_fetched 1 rfl (fun _ => rfl) (fun _ _ _ => rfl)
    (fun t => by rw [after_1]; unfold Dat.blockOf blk; rw [A_eq]) t d).trans
    (by unfold Dat.fetched Dat.blockOf blk; rw [A_eq]; try rfl)
theorem before_2 (c : Dev nD) (t : Fin cfg0.N) (d) : (dat V c).before 2 t d = blk V c 2 t :=
  ((dat V c).before_in_eq_fetched 2 rfl (fun _ => rfl) (fun _ _ _ => rfl)
    (fun t => by rw [after_2]; unfold Dat.blockOf blk; rw [A_eq]) t d).trans
    (by unfold Dat.fetched Dat.blockOf blk; rw [A_eq]; try rfl)
theorem before_3 (c : Dev nD) (t : Fin cfg0.N) (d) : (dat V c).before 3 t d = blk V c 3 t :=
  ((dat V c).before_in_eq_fetched 3 rfl (fun _ => rfl) (fun _ _ _ => rfl)
    (fun t => by rw [after_3]; unfold Dat.blockOf blk; rw [A_eq]) t d).trans
    (by unfold Dat.fetched Dat.blockOf blk; rw [A_eq]; try rfl)

/-- What the body is called with at point `t`, -/
def bodyPre (c : Dev nD) (t : Fin cfg0.N) : sProp 𝕄 :=
  iprop((dat V c).Φ t.castSucc ∗ (dat V c).owesAt () t.castSucc
    ∗ (∃ d, owns (c : Thread nD τ) (st0_0 t) fullShare ((dat V c).before 0 t d))
    ∗ (∃ d, owns (c : Thread nD τ) (st0_1 t) fullShare ((dat V c).before 1 t d))
    ∗ (∃ d, owns (c : Thread nD τ) (st0_2 t) fullShare ((dat V c).before 2 t d))
    ∗ (∃ d, owns (c : Thread nD τ) (st0_3 t) fullShare ((dat V c).before 3 t d))
    ∗ (∃ d, owns (c : Thread nD τ) (st0_4 t) fullShare ((dat V c).before 4 t d))
    ∗ (∃ d, owns (c : Thread nD τ) (st0_5 t) fullShare ((dat V c).before 5 t d)))

/-- and what it returns. -/
def bodyPost (c : Dev nD) (t : Fin cfg0.N) : sProp 𝕄 :=
  iprop((dat V c).Φ t.succ ∗ (dat V c).owesAt () t.succ
    ∗ owns (c : Thread nD τ) (st0_0 t) fullShare ((dat V c).after 0 t)
    ∗ owns (c : Thread nD τ) (st0_1 t) fullShare ((dat V c).after 1 t)
    ∗ owns (c : Thread nD τ) (st0_2 t) fullShare ((dat V c).after 2 t)
    ∗ owns (c : Thread nD τ) (st0_3 t) fullShare ((dat V c).after 3 t)
    ∗ owns (c : Thread nD τ) (st0_4 t) fullShare ((dat V c).after 4 t)
    ∗ owns (c : Thread nD τ) (st0_5 t) fullShare ((dat V c).after 5 t))

set_option maxHeartbeats 1000000 in
/-- The body at any point: at the first it fills the scratch, at a later one it finds it filled. -/
theorem sound_body (c : Dev nD) (t : Fin cfg0.N) :
    bodyPre V c t ⊢ wp frame (wpE (defs₀ (F := F)) Variants.none c none) Set.univ (bodyAt0 t) (fun _ => bodyPost V c t) := by
  unfold bodyPre bodyPost bodyAt0
  simp only [before_0, before_1, before_2, before_3]
  rw [show (dat V c).owesAt () t.succ = (dat V c).owesAt () t.castSucc from rfl,
    after_0, after_1, after_2, after_3, after_4, after_5]
  rw [show (dat V c).Φ t.castSucc = iprop(scr V c t.val ∗ rest c) from rfl,
    show (dat V c).Φ t.succ = iprop(scr V c (t.val + 1) ∗ rest c) from rfl]
  unfold scr
  rw [if_neg (Nat.succ_ne_zero t.val)]
  by_cases hz : t.val = 0
  · have ht : t = pt0 := Fin.ext hz
    subst ht
    rw [if_pos rfl]
    iintro ⟨⟨⟨HS0⟩, Hr⟩, Ho, ⟨%d0, H0⟩, ⟨%d1, H1⟩, ⟨%d2, H2⟩, ⟨%d3, H3⟩, ⟨%d4, H4⟩, ⟨%d5, H5⟩⟩
    iapply (run_first c (grid0.coords pt0) _ _ _ _ _ _ _ _ _ _ _ _ _ _ ((first_iff pt0).mpr rfl) (blk V c 0 pt0) (blk V c 1 pt0) (blk V c 2 pt0) (blk V c 3 pt0) Set.univ _)
    isplitl [H0]; · iexact H0
    isplitl [H1]; · iexact H1
    isplitl [H2]; · iexact H2
    isplitl [H3]; · iexact H3
    isplitl [H4]; · iexists _; iexact H4
    isplitl [H5]; · iexists _; iexact H5
    isplitl [HS0]; · iexact HS0
    iintro ⟨H0, H1, H2, H3, H4, H5, HS0⟩
    isplitl [HS0 Hr]
    · isplitl [HS0]
      · iexact HS0
      iexact Hr
    isplitl [Ho]; · iexact Ho
    isplitl [H0]; · iexact H0
    isplitl [H1]; · iexact H1
    isplitl [H2]; · iexact H2
    isplitl [H3]; · iexact H3
    isplitl [H4]; · iexact H4
    iexact H5
  · rw [if_neg hz]
    iintro ⟨⟨⟨HS0⟩, Hr⟩, Ho, ⟨%d0, H0⟩, ⟨%d1, H1⟩, ⟨%d2, H2⟩, ⟨%d3, H3⟩, ⟨%d4, H4⟩, ⟨%d5, H5⟩⟩
    iapply (run_later c (grid0.coords t) _ _ _ _ _ _ _ _ _ _ _ _ _ _ (fun h => hz ((first_iff t).mp h)) (blk V c 0 t) (blk V c 1 t) (blk V c 2 t) (blk V c 3 t) (G V c) Set.univ _)
    isplitl [H0]; · iexact H0
    isplitl [H1]; · iexact H1
    isplitl [H2]; · iexact H2
    isplitl [H3]; · iexact H3
    isplitl [H4]; · iexists _; iexact H4
    isplitl [H5]; · iexists _; iexact H5
    isplitl [HS0]; · iexact HS0
    iintro ⟨H0, H1, H2, H3, H4, H5, HS0⟩
    isplitl [HS0 Hr]
    · isplitl [HS0]
      · iexact HS0
      iexact Hr
    isplitl [Ho]; · iexact Ho
    isplitl [H0]; · iexact H0
    isplitl [H1]; · iexact H1
    isplitl [H2]; · iexact H2
    isplitl [H3]; · iexact H3
    isplitl [H4]; · iexact H4
    iexact H5

/-- The body table's row at point `t`'s slots is the body as the pipeline calls it there. -/
theorem row (t : Fin cfg0.N) : defs₀ (F := F) .tc cfg0.body (cfg0.bodyArgs t (cfg0.slots t)) = bodyAt0 t := by
  unfold defs₀; rw [Defs.onTc_tc]

/-- The library's body obligation, at every point. -/
theorem body_obligation (c : Dev nD) : BodyObligation (dat (F := F) V c) (defs₀ (F := F)) Variants.none () Set.univ := fun t => by
  rw [bigSep_W0, bigSep_W0, row]
  exact triple_restated (sound_body V c t) rfl .rfl fun _ => .rfl

/-- Entering: the scoped buffers at anything are the invariant before the first point. -/
theorem enter (c : Dev nD) :
    (Pipeline.scopedRest (Ix := Unit) (Name := ℕ) (U := UR sig nD τ) (Lvl := ℕ) (Val := Elt F) spec0 c : sProp 𝕄) ⊢ (dat V c).Φ 0 := by
  rw [show (dat V c).Φ 0 = iprop(scr V c 0 ∗ rest c) from rfl, scopedRest0_eq]
  unfold scr rest
  rw [if_pos rfl]
  simp only [owns_whole]
  iintro ⟨HS0, R0, R1, R2, R3, R4, R5, R6, R7⟩
  isplitl [HS0]
  · iexact HS0
  isplitl [R0]; · iexact R0
  isplitl [R1]; · iexact R1
  isplitl [R2]; · iexact R2
  isplitl [R3]; · iexact R3
  isplitl [R4]; · iexact R4
  isplitl [R5]; · iexact R5
  isplitl [R6]; · iexact R6
  iexact R7

/-- Leaving: the invariant after the last point gives them back, what they hold forgotten. -/
theorem leave (c : Dev nD) :
    (dat V c).Φ (Fin.last cfg0.N) ⊢ (Pipeline.scopedRest (Ix := Unit) (Name := ℕ) (U := UR sig nD τ) (Lvl := ℕ) (Val := Elt F) spec0 c : sProp 𝕄) := by
  rw [show (dat V c).Φ (Fin.last cfg0.N) = iprop(scr V c cfg0.N ∗ rest c) from rfl, scopedRest0_eq]
  unfold scr rest
  rw [if_neg (by rw [show cfg0.N = 25 from N_0]; decide)]
  simp only [owns_whole_eq]
  iintro ⟨⟨%f0, %hf0, HS0⟩, R0, R1, R2, R3, R4, R5, R6, R7⟩
  isplitl [HS0]; · iexists _; iexact HS0
  isplitl [R0]; · iexact R0
  isplitl [R1]; · iexact R1
  isplitl [R2]; · iexact R2
  isplitl [R3]; · iexact R3
  isplitl [R4]; · iexact R4
  isplitl [R5]; · iexact R5
  isplitl [R6]; · iexact R6
  iexact R7

end Cert.Proof.Pass1

end
-- ==== Proof.Pass2Body.lean ====
/-
  The second pass's body, run by the executor: at the first grid point it fills the three carried scratch buffers (the
  rounded features, the scale and the offset), and at every point it leaves the block's rows of the result.
-/
module

public import proofs.«01_k».proof.Proof.Gen.KernelIdeal.Skeleton
public import proofs.«01_k».proof.Proof.Gen.KernelIdeal.Launch
public import proofs.«01_k».proof.Proof.Gen.KernelIdeal.Points
public import Idealize.ShloMosaic.Lib.Pipeline.Frame
public import Idealize.ShloMosaic.Lib.Pipeline.FrameBody
public import Idealize.ShloMosaic.Lib.VecWindow
public import Idealize.ShloMosaic.Lib.Tactic
public import Idealize.ShloMosaic.Lib.WordCmp

@[expose] public section

set_option maxRecDepth 16384

noncomputable section

namespace Cert.Proof.Pass2

open Cert.KernelIdeal Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]

local notation "𝕄" => MT nD τ sig Unit (Elt F) ℕ (UR sig nD τ) ℕ

/-- The body's branch condition: the grid coordinate is zero. -/
abbrev first (i : grid1.Coords) : Prop :=
  (Scalar.cmpi .ne (Scalar.extui (Scalar.cmpi .eq (BitVec.ofNat 32 (i 0).val) 0#32)) 0#32) = 1#1

/-- The branch is taken at the first point only. -/
theorem first_iff (t : Fin cfg1.N) : first (grid1.coords t) ↔ t.val = 0 := by
  have ht : t.val < 25 := Nat.lt_of_lt_of_eq t.isLt N_1
  have e0 : (grid1.coords t 0).val = t.val / 1 % 25 := Pipeline.Grid.coords_val t 0 (by decide) rfl
  have h : first (grid1.coords t) ↔ t.val % 25 = 0 := by
    simp only [first, e0]
    word_cmp
  rw [h]; omega

set_option maxHeartbeats 1000000 in
/-- The body where the branch is taken: the scratch buffers are filled first, whatever they held. -/
theorem run_first (c : Dev nD) (i : grid1.Coords)
    (arg1 : Memref sig .tc .vmem S400x10000 .i8) (harg1 : arg1.IsWhole) (arg2 : Memref sig .tc .vmem S10000x64 .f32) (harg2 : arg2.IsWhole)
    (arg3 : Memref sig .tc .vmem S400x64 .f32) (harg3 : arg3.IsWhole) (arg4 : Memref sig .tc .vmem S10000x64 .i8) (harg4 : arg4.IsWhole)
    (arg5 : Memref sig .tc .vmem S1x64 .f32) (harg5 : arg5.IsWhole) (arg6 : Memref sig .tc .vmem S1x64 .f32) (harg6 : arg6.IsWhole) (hc : first i)
    (a : Vec F S400x10000 .i8) (h : Vec F S10000x64 .f32)
    (E : Set ℕ) (K : PUnit → sProp 𝕄) :
    iprop(owns (c : Thread nD τ) arg1 fullShare a ∗ owns (c : Thread nD τ) arg2 fullShare h ∗ (∃ d, owns (c : Thread nD τ) arg3 fullShare d)
        ∗ (∃ d, owns (c : Thread nD τ) arg4 fullShare d) ∗ (∃ d, owns (c : Thread nD τ) arg5 fullShare d) ∗ (∃ d, owns (c : Thread nD τ) arg6 fullShare d)
        ∗ (iprop(owns (c : Thread nD τ) arg1 fullShare a ∗ owns (c : Thread nD τ) arg2 fullShare h ∗ owns (c : Thread nD τ) arg3 fullShare (k1_pay7 a (k1_pay4 h) (k1_pay5 h) (k1_pay6 h))
            ∗ owns (c : Thread nD τ) arg4 fullShare (k1_pay4 h) ∗ owns (c : Thread nD τ) arg5 fullShare (k1_pay5 h) ∗ owns (c : Thread nD τ) arg6 fullShare (k1_pay6 h)) -∗ K ⟨⟩))
      ⊢ wp frame (wpE (defs₀ (F := F)) Variants.none c none) E (cc1__pass2_kernel i arg1 harg1 arg2 harg2 arg3 harg3 arg4 harg4 arg5 harg5 arg6 harg6) K := by
  simp only [cc1__pass2_kernel_eq_skeleton]; unfold cc1__pass2_kernel_skel
  unfold owns
  iintro ⟨⟨%f1, %hf1, H1⟩, ⟨%f2, %hf2, H2⟩, ⟨%d3, %f3, -, H3⟩, ⟨%d4, %f4, -, H4⟩, ⟨%d5, %f5, -, H5⟩, ⟨%d6, %f6, -, H6⟩, Hk⟩
  obtain rfl := harg1.eq_unread hf1; obtain rfl := harg2.eq_unread hf2
  sl_exec (disch := first | sl_exact hc)
  sl_step
  iapply Hk
  isplitl [H1]
  · iexists _; isplitr; · ipureintro; exact harg1.read_unread _
    iexact H1
  isplitl [H2]
  · iexists _; isplitr; · ipureintro; exact harg2.read_unread _
    iexact H2
  isplitl [H3]
  · iexists _; isplitr; swap; · iexact H3
    ipureintro
    unfold run_first.sl.v5 run_first.sl.v8 run_first.sl.v11
    unfold run_first.sl.H4_1 run_first.sl.H5_1 run_first.sl.H6_1
    rw [View.read_writes_full, View.readAt_full, View.readCov_full, View.readCov_full, View.readCov_full, View.readAt_full, hf1, hf2]
  isplitl [H4]
  · iexists _; isplitr; swap; · iexact H4
    ipureintro
    unfold run_first.sl.H4_1
    rw [View.read_writes_full, View.readAt_full, hf2]
  isplitl [H5]
  · iexists _; isplitr; swap; · iexact H5
    ipureintro
    unfold run_first.sl.H5_1
    rw [View.read_writes_full, View.readAt_full, hf2]
  iexists _; isplitr; swap; · iexact H6
  ipureintro
  unfold run_first.sl.H6_1
  rw [View.read_writes_full, View.readAt_full, hf2]

set_option maxHeartbeats 1000000 in
/-- The body where the branch is not taken: the scratch buffers are read as they stand. -/
theorem run_later (c : Dev nD) (i : grid1.Coords)
    (arg1 : Memref sig .tc .vmem S400x10000 .i8) (harg1 : arg1.IsWhole) (arg2 : Memref sig .tc .vmem S10000x64 .f32) (harg2 : arg2.IsWhole)
    (arg3 : Memref sig .tc .vmem S400x64 .f32) (harg3 : arg3.IsWhole) (arg4 : Memref sig .tc .vmem S10000x64 .i8) (harg4 : arg4.IsWhole)
    (arg5 : Memref sig .tc .vmem S1x64 .f32) (harg5 : arg5.IsWhole) (arg6 : Memref sig .tc .vmem S1x64 .f32) (harg6 : arg6.IsWhole) (hc : ¬first i)
    (a : Vec F S400x10000 .i8) (h : Vec F S10000x64 .f32) (q : Vec F S10000x64 .i8) (s k : Vec F S1x64 .f32)
    (E : Set ℕ) (K : PUnit → sProp 𝕄) :
    iprop(owns (c : Thread nD τ) arg1 fullShare a ∗ owns (c : Thread nD τ) arg2 fullShare h ∗ (∃ d, owns (c : Thread nD τ) arg3 fullShare d)
        ∗ owns (c : Thread nD τ) arg4 fullShare q ∗ owns (c : Thread nD τ) arg5 fullShare s ∗ owns (c : Thread nD τ) arg6 fullShare k
        ∗ (iprop(owns (c : Thread nD τ) arg1 fullShare a ∗ owns (c : Thread nD τ) arg2 fullShare h ∗ owns (c : Thread nD τ) arg3 fullShare (k1_pay7 a q s k)
            ∗ owns (c : Thread nD τ) arg4 fullShare q ∗ owns (c : Thread nD τ) arg5 fullShare s ∗ owns (c : Thread nD τ) arg6 fullShare k) -∗ K ⟨⟩))
      ⊢ wp frame (wpE (defs₀ (F := F)) Variants.none c none) E (cc1__pass2_kernel i arg1 harg1 arg2 harg2 arg3 harg3 arg4 harg4 arg5 harg5 arg6 harg6) K := by
  simp only [cc1__pass2_kernel_eq_skeleton]; unfold cc1__pass2_kernel_skel
  unfold owns
  iintro ⟨⟨%f1, %hf1, H1⟩, ⟨%f2, %hf2, H2⟩, ⟨%d3, %f3, -, H3⟩, ⟨%f4, %hf4, H4⟩, ⟨%f5, %hf5, H5⟩, ⟨%f6, %hf6, H6⟩, Hk⟩
  obtain rfl := harg1.eq_unread hf1; obtain rfl := harg2.eq_unread hf2
  obtain rfl := harg4.eq_unread hf4; obtain rfl := harg5.eq_unread hf5; obtain rfl := harg6.eq_unread hf6
  sl_exec (disch := first | sl_exact hc)
  sl_step
  iapply Hk
  isplitl [H1]
  · iexists _; isplitr; · ipureintro; exact harg1.read_unread _
    iexact H1
  isplitl [H2]
  · iexists _; isplitr; · ipureintro; exact harg2.read_unread _
    iexact H2
  isplitl [H3]
  · iexists _; isplitr; swap; · iexact H3
    ipureintro
    rw [View.read_writes_full, View.readAt_full, View.readAt_full, View.readAt_full, View.readAt_full, hf1, hf4, hf5, hf6]
  isplitl [H4]
  · iexists _; isplitr; · ipureintro; exact harg4.read_unread _
    iexact H4
  isplitl [H5]
  · iexists _; isplitr; · ipureintro; exact harg5.read_unread _
    iexact H5
  iexists _; isplitr; · ipureintro; exact harg6.read_unread _
  iexact H6

end Cert.Proof.Pass2

end
-- ==== Proof.Pass2Data.lean ====
/-
  The second pass as a pipeline region, entered from any contents of the unscoped buffers: its data, its body obligation,
  and how the scoped buffers enter and leave its invariant.
-/
module

public import proofs.«01_k».proof.Proof.Pass2Body
public import Idealize.ShloMosaic.Lib.Pipeline.Regions

@[expose] public section

set_option maxRecDepth 16384

noncomputable section

namespace Cert.Proof.Pass2

open Cert.KernelIdeal Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

-- the unscoped buffers' contents when the region is entered
variable (V : (c : Dev nD) → (b : Ref sig .tc) → Buf (Elt F) ((c : Thread nD τ).loc b))

/-- Window `w`'s block at point `t`, read off its array as the region finds it. -/
def blk (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The first grid point. -/
abbrev pt0 : Fin cfg1.N := ⟨0, Nat.lt_of_lt_of_eq (by decide : 0 < 25) N_1.symm⟩

/-- The rounded features the first point stores. -/
def Q (c : Dev nD) : Vec F S10000x64 .i8 := k1_pay4 (blk V c 1 pt0)

/-- The scale the first point stores. -/
def S (c : Dev nD) : Vec F S1x64 .f32 := k1_pay5 (blk V c 1 pt0)

/-- The offset the first point stores. -/
def C (c : Dev nD) : Vec F S1x64 .f32 := k1_pay6 (blk V c 1 pt0)

/-- The scoped buffers this region neither stages nor uses, each at some contents. -/
def rest (c : Dev nD) : sProp 𝕄 :=
  iprop((∃ f : Buf (Elt F) ((c : Thread nD τ).loc cc0_stg0_0), ((c : Thread nD τ).loc cc0_stg0_0) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg1_1), ((c : Thread nD τ).loc cc0_stg1_1) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg4_0), ((c : Thread nD τ).loc cc0_stg4_0) ↦{fullShare} f) ∗ (∃ f : Buf (Elt F) ((c : Thread nD τ).loc cc0_stg4_1), ((c : Thread nD τ).loc cc0_stg4_1) ↦{fullShare} f) ∗ (∃ f : Buf (Elt F) ((c : Thread nD τ).loc cc0_stg5_0), ((c : Thread nD τ).loc cc0_stg5_0) ↦{fullShare} f) ∗ (∃ f : Buf (Elt F) ((c : Thread nD τ).loc cc0_stg5_1), ((c : Thread nD τ).loc cc0_stg5_1) ↦{fullShare} f) ∗ (∃ f : Buf (Elt F) ((c : Thread nD τ).loc cc0_scratch0), ((c : Thread nD τ).loc cc0_scratch0) ↦{fullShare} f))

/-- What the carried scratch holds before point `n`: anything at first, what the first point stored in it afterwards. -/
def scr (c : Dev nD) (n : ℕ) : sProp 𝕄 :=
  if n = 0 then iprop((∃ d, owns (c : Thread nD τ) (Memref.whole cc1_scratch0) fullShare d) ∗ (∃ d, owns (c : Thread nD τ) (Memref.whole cc1_scratch1) fullShare d) ∗ (∃ d, owns (c : Thread nD τ) (Memref.whole cc1_scratch2) fullShare d))
  else iprop(owns (c : Thread nD τ) (Memref.whole cc1_scratch0) fullShare (Q V c) ∗ owns (c : Thread nD τ) (Memref.whole cc1_scratch1) fullShare (S V c) ∗ owns (c : Thread nD τ) (Memref.whole cc1_scratch2) fullShare (C V c))

/-- The region's data: the arrays as found; after the body an input's buffer at its block and an output's at what
    the body computes from the blocks; between points the scratch and the untouched scoped buffers; nothing owed. -/
def dat (c : Dev nD) : Dat τ (Elt F) Unit ℕ (UR sig nD τ) ℕ cfg1 c where
  A w := V c (Pipeline.arrRef spec1 w)
  after w t := match w with
    | ⟨0, _⟩ => blk V c 0 t
    | ⟨1, _⟩ => blk V c 1 t
    | ⟨2, _⟩ => k1_pay7 (blk V c 0 t) (Q V c) (S V c) (C V c)
  Φ t := iprop(scr V c t.val ∗ rest c)
  q _ := fullShare
  owed _ := 0

theorem A_eq (c : Dev nD) (w : Fin cfg1.W) : (dat V c).A w = V c (Pipeline.arrRef spec1 w) := by
  dsimp only [dat]

theorem after_0 (c : Dev nD) (t : Fin cfg1.N) : (dat V c).after 0 t = blk V c 0 t := by dsimp only [dat]
theorem after_1 (c : Dev nD) (t : Fin cfg1.N) : (dat V c).after 1 t = blk V c 1 t := by dsimp only [dat]
theorem after_2 (c : Dev nD) (t : Fin cfg1.N) : (dat V c).after 2 t = k1_pay7 (blk V c 0 t) (Q V c) (S V c) (C V c) := by dsimp only [dat]

/-- An input's staging buffer holds its block at every point, fetched there or not. -/
theorem before_0 (c : Dev nD) (t : Fin cfg1.N) (d) : (dat V c).before 0 t d = blk V c 0 t :=
  ((dat V c).before_in_eq_fetched 0 rfl (fun _ => rfl) (fun _ _ _ => rfl)
    (fun t => by rw [after_0]; unfold Dat.blockOf blk; rw [A_eq]) t d).trans
    (by unfold Dat.fetched Dat.blockOf blk; rw [A_eq]; try rfl)
theorem before_1 (c : Dev nD) (t : Fin cfg1.N) (d) : (dat V c).before 1 t d = blk V c 1 t :=
  ((dat V c).before_in_eq_fetched 1 rfl (fun _ => rfl) (fun _ _ _ => rfl)
    (fun t => by rw [after_1]; unfold Dat.blockOf blk; rw [A_eq]) t d).trans
    (by unfold Dat.fetched Dat.blockOf blk; rw [A_eq]; try rfl)

/-- What the body is called with at point `t`, -/
def bodyPre (c : Dev nD) (t : Fin cfg1.N) : sProp 𝕄 :=
  iprop((dat V c).Φ t.castSucc ∗ (dat V c).owesAt () t.castSucc
    ∗ (∃ d, owns (c : Thread nD τ) (st1_0 t) fullShare ((dat V c).before 0 t d))
    ∗ (∃ d, owns (c : Thread nD τ) (st1_1 t) fullShare ((dat V c).before 1 t d))
    ∗ (∃ d, owns (c : Thread nD τ) (st1_2 t) fullShare ((dat V c).before 2 t d)))

/-- and what it returns. -/
def bodyPost (c : Dev nD) (t : Fin cfg1.N) : sProp 𝕄 :=
  iprop((dat V c).Φ t.succ ∗ (dat V c).owesAt () t.succ
    ∗ owns (c : Thread nD τ) (st1_0 t) fullShare ((dat V c).after 0 t)
    ∗ owns (c : Thread nD τ) (st1_1 t) fullShare ((dat V c).after 1 t)
    ∗ owns (c : Thread nD τ) (st1_2 t) fullShare ((dat V c).after 2 t))

set_option maxHeartbeats 1000000 in
/-- The body at any point: at the first it fills the scratch, at a later one it finds it filled. -/
theorem sound_body (c : Dev nD) (t : Fin cfg1.N) :
    bodyPre V c t ⊢ wp frame (wpE (defs₀ (F := F)) Variants.none c none) Set.univ (bodyAt1 t) (fun _ => bodyPost V c t) := by
  unfold bodyPre bodyPost bodyAt1
  simp only [before_0, before_1]
  rw [show (dat V c).owesAt () t.succ = (dat V c).owesAt () t.castSucc from rfl,
    after_0, after_1, after_2]
  rw [show (dat V c).Φ t.castSucc = iprop(scr V c t.val ∗ rest c) from rfl,
    show (dat V c).Φ t.succ = iprop(scr V c (t.val + 1) ∗ rest c) from rfl]
  unfold scr
  rw [if_neg (Nat.succ_ne_zero t.val)]
  by_cases hz : t.val = 0
  · have ht : t = pt0 := Fin.ext hz
    subst ht
    rw [if_pos rfl]
    iintro ⟨⟨⟨HS0, HS1, HS2⟩, Hr⟩, Ho, ⟨%d0, H0⟩, ⟨%d1, H1⟩, ⟨%d2, H2⟩⟩
    iapply (run_first c (grid1.coords pt0) _ _ _ _ _ _ _ _ _ _ _ _ ((first_iff pt0).mpr rfl) (blk V c 0 pt0) (blk V c 1 pt0) Set.univ _)
    isplitl [H0]; · iexact H0
    isplitl [H1]; · iexact H1
    isplitl [H2]; · iexists _; iexact H2
    isplitl [HS0]; · iexact HS0
    isplitl [HS1]; · iexact HS1
    isplitl [HS2]; · iexact HS2
    iintro ⟨H0, H1, H2, HS0, HS1, HS2⟩
    isplitl [HS0 HS1 HS2 Hr]
    · isplitl [HS0 HS1 HS2]
      · isplitl [HS0]; · iexact HS0
        isplitl [HS1]; · iexact HS1
        iexact HS2
      iexact Hr
    isplitl [Ho]; · iexact Ho
    isplitl [H0]; · iexact H0
    isplitl [H1]; · iexact H1
    iexact H2
  · rw [if_neg hz]
    iintro ⟨⟨⟨HS0, HS1, HS2⟩, Hr⟩, Ho, ⟨%d0, H0⟩, ⟨%d1, H1⟩, ⟨%d2, H2⟩⟩
    iapply (run_later c (grid1.coords t) _ _ _ _ _ _ _ _ _ _ _ _ (fun h => hz ((first_iff t).mp h)) (blk V c 0 t) (blk V c 1 t) (Q V c) (S V c) (C V c) Set.univ _)
    isplitl [H0]; · iexact H0
    isplitl [H1]; · iexact H1
    isplitl [H2]; · iexists _; iexact H2
    isplitl [HS0]; · iexact HS0
    isplitl [HS1]; · iexact HS1
    isplitl [HS2]; · iexact HS2
    iintro ⟨H0, H1, H2, HS0, HS1, HS2⟩
    isplitl [HS0 HS1 HS2 Hr]
    · isplitl [HS0 HS1 HS2]
      · isplitl [HS0]; · iexact HS0
        isplitl [HS1]; · iexact HS1
        iexact HS2
      iexact Hr
    isplitl [Ho]; · iexact Ho
    isplitl [H0]; · iexact H0
    isplitl [H1]; · iexact H1
    iexact H2

/-- The body table's row at point `t`'s slots is the body as the pipeline calls it there. -/
theorem row (t : Fin cfg1.N) : defs₀ (F := F) .tc cfg1.body (cfg1.bodyArgs t (cfg1.slots t)) = bodyAt1 t := by
  unfold defs₀; rw [Defs.onTc_tc]

/-- The library's body obligation, at every point. -/
theorem body_obligation (c : Dev nD) : BodyObligation (dat (F := F) V c) (defs₀ (F := F)) Variants.none () Set.univ := fun t => by
  rw [bigSep_W1, bigSep_W1, row]
  exact triple_restated (sound_body V c t) rfl .rfl fun _ => .rfl

/-- Entering: the scoped buffers at anything are the invariant before the first point. -/
theorem enter (c : Dev nD) :
    (Pipeline.scopedRest (Ix := Unit) (Name := ℕ) (U := UR sig nD τ) (Lvl := ℕ) (Val := Elt F) spec1 c : sProp 𝕄) ⊢ (dat V c).Φ 0 := by
  rw [show (dat V c).Φ 0 = iprop(scr V c 0 ∗ rest c) from rfl, scopedRest1_eq]
  unfold scr rest
  rw [if_pos rfl]
  simp only [owns_whole]
  iintro ⟨R0, R1, R2, R3, R4, R5, R6, R7, R8, R9, HS0, HS1, HS2⟩
  isplitl [HS0 HS1 HS2]
  · isplitl [HS0]; · iexact HS0
    isplitl [HS1]; · iexact HS1
    iexact HS2
  isplitl [R0]; · iexact R0
  isplitl [R1]; · iexact R1
  isplitl [R2]; · iexact R2
  isplitl [R3]; · iexact R3
  isplitl [R4]; · iexact R4
  isplitl [R5]; · iexact R5
  isplitl [R6]; · iexact R6
  isplitl [R7]; · iexact R7
  isplitl [R8]; · iexact R8
  iexact R9

/-- Leaving: the invariant after the last point gives them back, what they hold forgotten. -/
theorem leave (c : Dev nD) :
    (dat V c).Φ (Fin.last cfg1.N) ⊢ (Pipeline.scopedRest (Ix := Unit) (Name := ℕ) (U := UR sig nD τ) (Lvl := ℕ) (Val := Elt F) spec1 c : sProp 𝕄) := by
  rw [show (dat V c).Φ (Fin.last cfg1.N) = iprop(scr V c cfg1.N ∗ rest c) from rfl, scopedRest1_eq]
  unfold scr rest
  rw [if_neg (by rw [show cfg1.N = 25 from N_1]; decide)]
  simp only [owns_whole_eq]
  iintro ⟨⟨⟨%f0, %hf0, HS0⟩, ⟨%f1, %hf1, HS1⟩, ⟨%f2, %hf2, HS2⟩⟩, R0, R1, R2, R3, R4, R5, R6, R7, R8, R9⟩
  isplitl [R0]; · iexact R0
  isplitl [R1]; · iexact R1
  isplitl [R2]; · iexact R2
  isplitl [R3]; · iexact R3
  isplitl [R4]; · iexact R4
  isplitl [R5]; · iexact R5
  isplitl [R6]; · iexact R6
  isplitl [R7]; · iexact R7
  isplitl [R8]; · iexact R8
  isplitl [R9]; · iexact R9
  isplitl [HS0]; · iexists _; iexact HS0
  isplitl [HS1]; · iexists _; iexact HS1
  iexists _; iexact HS2

end Cert.Proof.Pass2

end
-- ==== Proof.Run.lean ====
/-
  The whole program's run: the two passes as segments, each entered from the unscoped buffers' contents the one before
  left, and the final contents of the arguments and of the result.
-/
module

public import proofs.«01_k».proof.Proof.Pass1Data
public import proofs.«01_k».proof.Proof.Pass2Data
public import Idealize.ShloMosaic.Lib.Pipeline.RegionsLoop

@[expose] public section

set_option maxRecDepth 16384

noncomputable section

namespace Cert.Proof.Run

open Cert.KernelIdeal Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Seg RegionSeg)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

/-! ## The unscoped buffers between the passes -/

/-- At launch. -/
abbrev V0 (c : Dev nD) (b : Ref sig .tc) : Buf (Elt F) ((c : Thread nD τ).loc b) := m ((c : Thread nD τ).loc b)
/-- What the first pass leaves: the hidden product, -/
def hid (c : Dev nD) : Buf (Elt F) ((c : Thread nD τ).loc main_v0_0) := (Pass1.dat (V0 m) c).arrAt 4 cfg0.N
/-- and the codes. -/
def code (c : Dev nD) : Buf (Elt F) ((c : Thread nD τ).loc main_v0_1) := (Pass1.dat (V0 m) c).arrAt 5 cfg0.N
/-- After the first pass. -/
def V1 (c : Dev nD) : (b : Ref sig .tc) → Buf (Elt F) ((c : Thread nD τ).loc b) :=
  Function.update (Function.update (V0 m c) main_v0_0 (hid m c)) main_v0_1 (code m c)
/-- What the second pass leaves. -/
def res (c : Dev nD) : Buf (Elt F) ((c : Thread nD τ).loc main_v1) := (Pass2.dat (V1 m) c).arrAt 2 cfg1.N
/-- After the second pass. -/
def V2 (c : Dev nD) : (b : Ref sig .tc) → Buf (Elt F) ((c : Thread nD τ).loc b) := Function.update (V1 m c) main_v1 (res m c)

theorem V1_hid (c : Dev nD) : V1 m c main_v0_0 = hid m c := by
  unfold V1; rw [Function.update_of_ne (by decide), Function.update_self]
theorem V1_code (c : Dev nD) : V1 m c main_v0_1 = code m c := by
  unfold V1; rw [Function.update_self]
theorem V1_of (c : Dev nD) (b : Ref sig .tc) (h0 : b ≠ main_v0_0) (h1 : b ≠ main_v0_1) : V1 m c b = V0 m c b := by
  unfold V1; rw [Function.update_of_ne h1, Function.update_of_ne h0]
theorem V2_res (c : Dev nD) : V2 m c main_v1 = res m c := by
  unfold V2; rw [Function.update_self]
theorem V2_of (c : Dev nD) (b : Ref sig .tc) (h : b ≠ main_v1) : V2 m c b = V1 m c b := by
  unfold V2; rw [Function.update_of_ne h]

/-! ## The two regions as segments -/

/-- Each pipeline's data. -/
def pdats : (p : Fin 2) → (c : Dev nD) → Dat τ (Elt F) Unit ℕ (UR sig nD τ) ℕ (cfgs p) c
  | ⟨0, _⟩ => fun c => Pass1.dat (V0 m) c
  | ⟨1, _⟩ => fun c => Pass2.dat (V1 m) c

/-- No pipeline has a prefetched table. -/
abbrev adm : (p : Fin 2) → (pcfgs (F := F) p).Adm := fun p => (cfgs p).toPCfg_adm
/-- No core owes another anything. -/
abbrev L : GSem nD τ sig → Finset Unit := fun _ => ∅
abbrev lv : GSem nD τ sig → Unit → ℕ := fun _ _ => 0
/-- The thread state beside the unscoped buffers: nothing owed. -/
abbrev debt (c : Dev nD) : sProp 𝕄 := iprop(∃ W, owes (c : Thread nD τ) (0 : CellTallies nD τ sig Unit) W)

set_option backward.isDefEq.respectTransparency.types false in
/-- The first pass. -/
def reg0 : RegionSeg (pcfgs (F := F)) adm (pdats m) () defs₀ Variants.none L lv 0 where
  win := launch0.win.to₀
  block_pos := launch0.block_pos
  stage_whole := launch0.stage_whole
  K := PEmpty
  osem k := k.elim
  ho := Pipeline.OwnSemFacts.none _
  hbody c := (Pass1.body_obligation (V0 m) c).loose
  hwaits := Pipeline.hwaits_of_owed_zero _ _ _ _ L lv 0 fun _ _ => rfl
  pre c := iprop(unscopedBufs c (V0 m c) ∗ debt c)
  post c := iprop(unscopedBufs c (V1 m c) ∗ debt c)
  X _ := BI.emp
  Y _ := BI.emp
  Z c := Pipeline.unscopedRest (Ix := Unit) (Name := ℕ) (U := UR sig nD τ) (Lvl := ℕ) spec0 c (V0 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (V0 m c) fun _ => rfl
    iintro ⟨⟨Hub, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitr; · iempintro
    iexact Hrest
  hin c := by
    iintro ⟨-, -, Hr⟩
    have h : _ ⊢ (pdats m 0 c).Φ 0 := Pass1.enter (V0 m) c
    iapply h
    iexact Hr
  hout c := by
    rw [Pipeline.ownSems0_none]
    iintro Hr
    isplitr; · iempintro
    isplitr; · iempintro
    have h : (pdats m 0 c).Φ (Fin.last _) ⊢ _ := Pass1.leave (V0 m) c
    iapply h
    iexact Hr
  hexit c := by
    have hjoin := Pipeline.unscopedBufs_of_arrays (p := 0) (pcfgs (F := F)) adm (Ix := Unit) (Name := ℕ) (U := UR sig nD τ) (Lvl := ℕ) launch0.win launch0.arr_whole c
      (pdats m) ((pdats m 0 c).share_full fun _ => rfl) (V0 m c) (V1 m c) ((pdats m 0 c).arrAt · cfg0.N)
      (fun w => by
        fin_cases w
        · exact ((pdats m 0 c).arrAt_in 0 rfl _).trans (V1_of m c main_arg0 (by decide) (by decide)).symm
        · exact ((pdats m 0 c).arrAt_in 1 rfl _).trans (V1_of m c main_arg1 (by decide) (by decide)).symm
        · exact ((pdats m 0 c).arrAt_in 2 rfl _).trans (V1_of m c main_arg2 (by decide) (by decide)).symm
        · exact ((pdats m 0 c).arrAt_in 3 rfl _).trans (V1_of m c main_arg3 (by decide) (by decide)).symm
        · exact (V1_hid m c).symm
        · exact (V1_code m c).symm)
      (fun b hb => V1_of m c b (fun h => hb (h ▸ Finset.mem_image.mpr ⟨4, Finset.mem_univ _, rfl⟩))
        (fun h => hb (h ▸ Finset.mem_image.mpr ⟨5, Finset.mem_univ _, rfl⟩)))
    iintro ⟨Ha, HO, -, Hrest⟩
    imodintro
    isplitl [Ha Hrest]
    · iapply hjoin; isplitl [Ha] <;> iassumption
    unfold Pipeline.Dat.owesAt Pipeline.owesWithin
    icases HO with ⟨%W, -, HO⟩; iexists W; iexact HO

set_option backward.isDefEq.respectTransparency.types false in
/-- The second pass. -/
def reg1 : RegionSeg (pcfgs (F := F)) adm (pdats m) () defs₀ Variants.none L lv 1 where
  win := launch1.win.to₀
  block_pos := launch1.block_pos
  stage_whole := launch1.stage_whole
  K := PEmpty
  osem k := k.elim
  ho := Pipeline.OwnSemFacts.none _
  hbody c := (Pass2.body_obligation (V1 m) c).loose
  hwaits := Pipeline.hwaits_of_owed_zero _ _ _ _ L lv 1 fun _ _ => rfl
  pre c := iprop(unscopedBufs c (V1 m c) ∗ debt c)
  post c := iprop(unscopedBufs c (V2 m c) ∗ debt c)
  X _ := BI.emp
  Y _ := BI.emp
  Z c := Pipeline.unscopedRest (Ix := Unit) (Name := ℕ) (U := UR sig nD τ) (Lvl := ℕ) spec1 c (V1 m c)
  hentry c := by
    rw [Pipeline.ownSems0_none]
    have hsplit := Pipeline.arrays_of_unscopedBufs (p := 1) (pcfgs (F := F)) adm (pdats m) launch1.win launch1.arr_whole c
      ((pdats m 1 c).share_full fun _ => rfl) (V1 m c) fun _ => rfl
    iintro ⟨⟨Hub, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitr; · iempintro
    iexact Hrest
  hin c := by
    iintro ⟨-, -, Hr⟩
    have h : _ ⊢ (pdats m 1 c).Φ 0 := Pass2.enter (V1 m) c
    iapply h
    iexact Hr
  hout c := by
    rw [Pipeline.ownSems0_none]
    iintro Hr
    isplitr; · iempintro
    isplitr; · iempintro
    have h : (pdats m 1 c).Φ (Fin.last _) ⊢ _ := Pass2.leave (V1 m) c
    iapply h
    iexact Hr
  hexit c := by
    have hjoin := Pipeline.unscopedBufs_of_arrays (p := 1) (pcfgs (F := F)) adm (Ix := Unit) (Name := ℕ) (U := UR sig nD τ) (Lvl := ℕ) launch1.win launch1.arr_whole c
      (pdats m) ((pdats m 1 c).share_full fun _ => rfl) (V1 m c) (V2 m c) ((pdats m 1 c).arrAt · cfg1.N)
      (fun w => by
        fin_cases w
        · exact ((pdats m 1 c).arrAt_in 0 rfl _).trans (V2_of m c main_v0_1 (by decide)).symm
        · exact ((pdats m 1 c).arrAt_in 1 rfl _).trans (V2_of m c main_v0_0 (by decide)).symm
        · exact (V2_res m c).symm)
      (fun b hb => V2_of m c b fun h => hb (h ▸ Finset.mem_image.mpr ⟨2, Finset.mem_univ _, rfl⟩))
    iintro ⟨Ha, HO, -, Hrest⟩
    imodintro
    isplitl [Ha Hrest]
    · iapply hjoin; isplitl [Ha] <;> iassumption
    unfold Pipeline.Dat.owesAt Pipeline.owesWithin
    icases HO with ⟨%W, -, HO⟩; iexists W; iexact HO

/-! ## The launch -/

/-- Every unscoped buffer's final contents. -/
def Final (s : MemSt nD τ sig (Elt F)) : Prop :=
  ∀ c : Dev nD, ∀ b ∈ (Finset.univ.filter fun b : Ref sig .tc => ¬ b.isScoped), s.mem ((c : Thread nD τ).loc b) = V2 m c b

/-- The pipeline library's algebra is the certificate's whole algebra. -/
def EP : Emb (UR sig nD τ) (MT nD τ sig Unit (Elt F) ℕ (UR sig nD τ) ℕ) :=
  (Emb.refl _).trans (uEmb (nD := nD) (sig := sig) (Ix := Unit) (Val := Elt F) (Name := ℕ) (U := UR sig nD τ) (Lvl := ℕ)).toEmb

instance EP_landsIn : (EP (F := F) : Emb (UR sig nD τ) 𝕄).LandsIn (upEmb : UEmb _ 𝕄) := by unfold EP; infer_instance

/-- Every semaphore of the core is scoped. -/
theorem no_unscoped : ∀ sm : SemLoc sig, sm.isScoped .tc = true := by decide

set_option backward.isDefEq.respectTransparency.types false in
/-- From any memory with zero counters every weakly fair execution terminates, every final state has each unscoped
    buffer at its contents after the second pass, and every counter is zero. -/
theorem run_main : θ_run defs (onTc (τ := τ) (main (F := F))) ⟨m, fun _ => 0, ρ⟩ (fun r => Final m r.2 ∧ r.2.sem = fun _ => 0) := by
  refine Pipeline.θ_run_regions_kit_dev_sems (pcfgs (F := F)) adm (pdats m) () cellOf_inj EP defs₀ Variants.none L lv m ρ main
    (fun _ => [.region (reg0 m), .region (reg1 m)])
    (fun c Q => by rw [main_segs adm (pdats m) () Variants.none L lv (reg0 m) (reg1 m) c])
    (fun c => by simp only [Seg.pipes_host, Seg.pipes_region, Seg.pipes_nil]; decide)
    (O₀ := 0) (hL := fun _ _ => rfl) (G := fun _ => iprop(emp))
    (u₀ := initOf (Pipeline.cells cfgs cellOf_inj) (Pipeline.launchToks cfgs cellOf_inj))
    (hu₀ := ?_)
    (T₀ := fun c => iprop(unscopedBufs c (V0 m c) ∗ debt c)) (Tₙ := fun c => unscopedBufs c (V2 m c))
    (hch := fun c => ⟨.rfl, .rfl, .rfl⟩)
    (hinit := ?_)
    (QY := fun c s => ∀ b ∈ (Finset.univ.filter fun b : Ref sig .tc => ¬ b.isScoped), s.mem ((c : Thread nD τ).loc b) = V2 m c b)
    (hfin := fun c s' => ?_)
    (hQ := fun _ h hz => ⟨h, funext fun g => hz g (.inr (no_unscoped g.2))⟩)
  · rw [show (ownU (initOf (Pipeline.cells cfgs cellOf_inj) (Pipeline.launchToks cfgs cellOf_inj) : UR sig nD τ) : sProp 𝕄)
      = BI.own (EP (F := F) (initOf (Pipeline.cells cfgs cellOf_inj) (Pipeline.launchToks cfgs cellOf_inj))) from rfl]
    iintro Hu
    imodintro
    isplitl [Hu]; · iexact Hu
    iapply (show (BI.emp : sProp 𝕄) ⊢ bigSep Finset.univ (fun _ : Dev nD => (BI.emp : sProp 𝕄)) from by rw [BI.bigSep_emp_const])
    iempintro
  · refine Pipeline.initEach L lv fun c => ?_
    iintro ⟨⟨Hh, -, HO, -, -, -⟩, -⟩
    imodintro
    isplitl [Hh]; · iexact Hh
    iexists ∅; iexact HO
  · unfold unscopedBufs
    iintro ⟨Hh, HSI⟩
    ihave Hr := (pointsTo_read_all (Finset.univ.filter fun b : Ref sig .tc => ¬ b.isScoped) (fun b => (c : Thread nD τ).loc b) (V2 m c) s') $$ [Hh HSI]
    · isplitl [Hh] <;> iassumption
    icases Hr with ⟨%h, HSI⟩
    imodintro
    isplitr; · ipureintro; exact h
    iexact HSI

end Cert.Proof.Run

end
-- ==== Proof.Quantised.lean ====
/-
  The arithmetic of one quantised matrix product over the extended reals.

  A column of activations is scaled by `s`, a 127th of a bound on its magnitudes, and rounded to whole levels; a row of
  the adjacency matrix is a word of 8 bits for each entry. The levels are whole numbers of at most 127 in magnitude, so
  the conversion to 8 bits loses nothing, and the product of the two dequantised vectors is the whole-number product of
  the words and the levels, scaled, plus a correction from the levels' sum. An infinite scale makes every level 0 and
  both sides 0.
-/
module

public import Idealize.ShloMosaic.Lib.IntMxu
public import Idealize.ShloMosaic.PureOps.Ideal

@[expose] public section

noncomputable section

namespace Cert.Proof.Quantised

open Idealize.ShloMosaic
open scoped BigOperators

/-! The constants the programs name by their 32-bit patterns. -/

theorem word_254 : Ideal.ofBits .f32 0x437E0000#32 = ((254 : ℝ) : EReal) := by
  simp [Ideal.ofBits, Ideal.ieee, -EReal.coe_mul]; norm_num

theorem word_127 : Ideal.ofBits .f32 0x42FE0000#32 = ((127 : ℝ) : EReal) := by
  simp [Ideal.ofBits, Ideal.ieee, -EReal.coe_mul]; norm_num

theorem word_bound : Ideal.ofBits .f32 0x4C800000#32 = ((67108864 : ℝ) : EReal) := by
  simp [Ideal.ofBits, Ideal.ieee, -EReal.coe_mul]; norm_num

/-- The least scale's numerator, about 1e-20, is positive and finite. -/
theorem word_least : ∃ e : ℝ, 0 < e ∧ Ideal.ofBits .f32 0x1E3CE508#32 = (e : EReal) := by
  refine ⟨12379400 * 2 ^ (-90 : ℤ), by positivity, ?_⟩
  simp [Ideal.ofBits, Ideal.ieee, -EReal.coe_mul]

theorem word_middle : Ideal.ofBits .f32 0x42FF0000#32 = ((255 / 2 : ℝ) : EReal) := by
  simp [Ideal.ofBits, Ideal.ieee, -EReal.coe_mul]; norm_num

/-- The level of an entry: the entry over the scale, to the nearest whole number. -/
def level (h s : EReal) : EReal := Ideal.liftRound Ideal.roundHalfEven (Ideal.div h s)

/-- A real of magnitude at most 127 rounds to a whole number of magnitude at most 127. -/
theorem round_abs_le {t : ℝ} (h : |t| ≤ 127) : -127 ≤ Ideal.roundHalfEven t ∧ Ideal.roundHalfEven t ≤ 127 := by
  obtain ⟨h1, h2⟩ := abs_le.mp h
  have l1 : (-127 : ℤ) ≤ ⌊t⌋ := Int.le_floor.mpr (by exact_mod_cast h1)
  have l2 : ⌊t⌋ ≤ 127 := by
    have : ((⌊t⌋ : ℤ) : ℝ) ≤ 127 := (Int.floor_le t).trans h2
    exact_mod_cast this
  have key : ⌊t⌋ = 127 → t - ⌊t⌋ < 1 / 2 := by
    intro e; rw [e]; push_cast; linarith
  unfold Ideal.roundHalfEven
  by_cases e : ⌊t⌋ = 127
  · have hk := key e
    simp only [hk, if_true]
    omega
  · dsimp only
    split_ifs <;> omega

/-- The scale of a column whose magnitudes are bounded by `b`. -/
def scaleOf (b : EReal) : EReal := Ideal.div b (Ideal.ofBits .f32 0x42FE0000#32)

/-- The scale is either `⊤` or a positive real `r` with the bound equal to `127 * r`. -/
theorem scaleOf_cases {b : EReal} (hb : 0 < b) :
    scaleOf b = ⊤ ∨ ∃ r : ℝ, 0 < r ∧ scaleOf b = (r : EReal) ∧ b = ((127 * r : ℝ) : EReal) := by
  unfold scaleOf
  rw [word_127, Ideal.div_coe (by norm_num)]
  induction b using EReal.rec with
  | bot => simp at hb
  | top => left; exact EReal.top_mul_coe_of_pos (by norm_num)
  | coe x =>
    have hx : 0 < x := by exact_mod_cast hb
    refine .inr ⟨x * (1 / 127), by positivity, by rw [EReal.coe_mul], ?_⟩
    congr 1
    ring

/-- Every level is a whole number of at most 127 in magnitude; under an infinite scale it is 0. -/
theorem level_int {b h : EReal} (hb : 0 < b) (hh : max h (-h) ≤ b) :
    ∃ n : ℤ, -127 ≤ n ∧ n ≤ 127 ∧ level h (scaleOf b) = ((n : ℝ) : EReal) ∧ (scaleOf b = ⊤ → n = 0) := by
  rcases scaleOf_cases hb with e | ⟨r, hr, e, rfl⟩
  · refine ⟨0, by norm_num, by norm_num, ?_, fun _ => rfl⟩
    have : Ideal.div h ⊤ = ((0 : ℝ) : EReal) := by
      unfold Ideal.div
      rw [if_neg EReal.top_ne_zero, EReal.inv_top, mul_zero]; rfl
    rw [level, e, this, Ideal.liftRound_coe]
    simp [Ideal.roundHalfEven]
  · have h1 : h ≤ ((127 * r : ℝ) : EReal) := (le_max_left _ _).trans hh
    have h2 : -h ≤ ((127 * r : ℝ) : EReal) := (le_max_right _ _).trans hh
    induction h using EReal.rec with
    | bot => rw [EReal.neg_bot] at h2; exact absurd (top_le_iff.mp h2) (EReal.coe_ne_top _)
    | top => exact absurd (top_le_iff.mp h1) (EReal.coe_ne_top _)
    | coe x =>
      have h1' : x ≤ 127 * r := by exact_mod_cast h1
      have h2' : -x ≤ 127 * r := by
        rw [← EReal.coe_neg] at h2; exact_mod_cast h2
      have hd : |x * (1 / r)| ≤ 127 := by
        rw [mul_one_div, abs_div, abs_of_pos hr, div_le_iff₀ hr]
        exact abs_le.mpr ⟨by linarith, h1'⟩
      obtain ⟨k1, k2⟩ := round_abs_le hd
      refine ⟨Ideal.roundHalfEven (x * (1 / r)), k1, k2, ?_, fun he => ?_⟩
      · rw [level, e, Ideal.div_coe hr.ne', ← EReal.coe_mul, Ideal.liftRound_coe]
      · rw [e] at he; exact absurd he (EReal.coe_ne_top _)

/-- A whole number of at most 127 in magnitude survives the conversion to 8 bits. -/
theorem fptosi_level {n : ℤ} (h1 : -127 ≤ n) (h2 : n ≤ 127) :
    (Ideal.fptosi 8 (((n : ℝ)) : EReal)).toInt = n := by
  have hc : Ideal.toIntClamped (-(2 ^ (8 - 1) : Nat)) ((2 ^ (8 - 1) : Nat) - 1) (((n : ℝ)) : EReal) = n := by
    show max _ (min _ (if 0 ≤ (n : ℝ) then ⌊(n : ℝ)⌋ else ⌈(n : ℝ)⌉)) = n
    rw [Int.floor_intCast, Int.ceil_intCast, ite_self]
    norm_num
    omega
  unfold Ideal.fptosi
  rw [hc, BitVec.toInt_ofInt]
  apply Int.bmod_eq_of_le <;> omega

/-- The magnitude of a whole number among the extended reals. -/
theorem abs_coe (n : ℤ) : max (((n : ℝ)) : EReal) (-(((n : ℝ)) : EReal)) = (((n.natAbs : ℕ) : ℝ) : EReal) := by
  rw [← EReal.coe_neg, ← EReal.coe_strictMono.monotone.map_max]
  congr 1
  rw [Nat.cast_natAbs]
  push_cast
  rfl

/-- A finite sum of reals among the extended reals. -/
theorem coe_sum {n : Nat} (f : Fin n → ℝ) : ((∑ k, f k : ℝ) : EReal) = ∑ k, (f k : EReal) :=
  map_sum (⟨⟨Real.toEReal, rfl⟩, EReal.coe_add⟩ : ℝ →+ EReal) f Finset.univ

section Product

variable {n : Nat} (q : Fin n → BitVec 8) (h : Fin n → EReal) (b : EReal)

/-- The product of the dequantised row and the dequantised column, as the mathematics states it. -/
def plain : EReal :=
  ∑ k, Ideal.div ((((q k).toInt : ℝ) : EReal) + Ideal.ofBits .f32 0x42FF0000#32) (Ideal.ofBits .f32 0x437E0000#32)
    * (level (h k) (scaleOf b) * scaleOf b)

/-- The same product from a whole number `w`: `w` times a 254th of the scale, plus the levels' sum times 255/508
    of the scale. -/
def scaled (w : ℤ) : EReal :=
  ((w : ℝ) : EReal) * Ideal.div (scaleOf b) (Ideal.ofBits .f32 0x437E0000#32)
    + ((255 / 508 : ℝ) : EReal) * scaleOf b * ∑ k, level (h k) (scaleOf b)

/-- The total of the magnitudes of the products of words and levels. -/
def weight : EReal :=
  ∑ k, max (((q k).toInt : ℝ) : EReal) (-(((q k).toInt : ℝ) : EReal))
    * max (level (h k) (scaleOf b)) (-(level (h k) (scaleOf b)))

/-- The level as an 8-bit word. -/
def word (k : Fin n) : BitVec 8 := Ideal.fptosi 8 (level (h k) (scaleOf b))

variable {q h b} (hb : 0 < b) (hh : ∀ k, max (h k) (-(h k)) ≤ b)

include hb hh in
/-- The bound on the weight bounds the whole-number product's magnitudes. -/
theorem magnitude_le (hw : weight q h b ≤ Ideal.ofBits .f32 0x4C800000#32) :
    ∑ k, ((q k).toInt * (word h b k).toInt).natAbs ≤ 2 ^ 26 := by
  choose l l1 l2 l3 _ using fun k => level_int hb (hh k)
  have e : weight q h b = ((((∑ k, ((q k).toInt * l k).natAbs : ℕ) : ℝ)) : EReal) := by
    push_cast
    rw [coe_sum]
    refine Finset.sum_congr rfl fun k _ => ?_
    rw [l3 k, abs_coe, abs_coe, ← EReal.coe_mul, Int.natAbs_mul]
    push_cast
    rfl
  rw [e, word_bound] at hw
  have hw' : (∑ k, ((q k).toInt * l k).natAbs : ℕ) ≤ 67108864 := by exact_mod_cast hw
  have : ∀ k, (word h b k).toInt = l k := fun k => by
    rw [word, l3 k, fptosi_level (l1 k) (l2 k)]
  simp only [this]
  exact hw'

include hb hh in
/-- The two forms of the product agree. -/
theorem scaled_eq_plain : scaled h b (∑ k, (q k).toInt * (word h b k).toInt) = plain q h b := by
  choose l l1 l2 l3 l4 using fun k => level_int hb (hh k)
  have hword : ∀ k, (word h b k).toInt = l k := fun k => by
    rw [word, l3 k, fptosi_level (l1 k) (l2 k)]
  unfold scaled plain
  simp only [hword, l3, word_254, word_middle]
  rcases scaleOf_cases hb with hs | ⟨r, hr, hs, -⟩
  · have hl : ∀ k, l k = 0 := fun k => l4 k hs
    simp [hl]
  · rw [hs, Ideal.div_coe (by norm_num)]
    simp only [Ideal.div_coe (by norm_num : (254 : ℝ) ≠ 0), ← EReal.coe_mul, ← EReal.coe_add, ← coe_sum]
    congr 1
    push_cast
    rw [Finset.sum_mul, Finset.mul_sum, ← Finset.sum_add_distrib]
    refine Finset.sum_congr rfl fun k _ => ?_
    ring

end Product

end Cert.Proof.Quantised
-- ==== Proof.Model.lean ====
/-
  What the program computes, as functions of its argument arrays over the extended reals: the hidden activations, the
  adjacency matrix's words, the logits, and the normalised rows.
-/
module

public import proofs.«01_k».proof.Proof.Quantised
public import Idealize.ShloMosaic.Lib.Pointwise

@[expose] public section

noncomputable section

namespace Cert.Proof.Model

open Idealize.ShloMosaic Cert.Proof.Quantised
open scoped BigOperators

/-- An array of `R` rows and `C` columns. -/
abbrev Arr (R C : Nat) : Type := FVec Ideal ⟨2, ![R, C]⟩ .f32

/-- The two layers' product: `relu (a (x w₁)) w₂`. -/
def hidden (x : Arr 10000 256) (a : Arr 10000 10000) (w1 : Arr 256 128) (w2 : Arr 128 64) (r : Fin 10000) (c : Fin 64) : EReal :=
  ∑ k : Fin 128, max (∑ l : Fin 10000, a (ix2 r l) * ∑ d : Fin 256, x (ix2 l d) * w1 (ix2 d k)) 0 * w2 (ix2 k c)

/-- The 8-bit word of an entry of the adjacency matrix. -/
def codeOf (v : EReal) : BitVec 8 :=
  BitVec.setWidth 8 (IntOp.subi (Ideal.fptosi 32 (v * Ideal.ofBits .f32 0x437E0000#32)) 127#32)

/-- The bound on a column's magnitudes that its scale is taken from. -/
def bound (h : Fin 10000 → EReal) : EReal :=
  max (Finset.fold max (Ideal.ofBits .f32 0xFF800000#32) (fun k => max (h k) (-(h k))) Finset.univ)
    (Ideal.ofBits .f32 0x1E3CE508#32)

theorem bound_pos (h : Fin 10000 → EReal) : 0 < bound h := by
  obtain ⟨e, he, hw⟩ := word_least
  unfold bound
  rw [hw]
  exact lt_max_of_lt_right (by exact_mod_cast he)

theorem le_bound (h : Fin 10000 → EReal) (k : Fin 10000) : max (h k) (-(h k)) ≤ bound h :=
  le_max_of_le_left ((Finset.le_fold_max _).mpr (.inr ⟨k, Finset.mem_univ k, le_rfl⟩))

/-- A row of logits, normalised: each less the row's maximum, less the logarithm of the sum of their exponentials. -/
def rowOut (z : Fin 64 → EReal) (c : Fin 64) : EReal :=
  z c - Finset.fold max (Ideal.ofBits .f32 0xFF800000#32) z Finset.univ
    - Ideal.log (∑ x, Ideal.exp (z x - Finset.fold max (Ideal.ofBits .f32 0xFF800000#32) z Finset.univ))

/-- One logit: row `r` of the dequantised adjacency matrix times the dequantised column `h`. -/
def logit (a : Arr 10000 10000) (r : Fin 10000) (h : Fin 10000 → EReal) : EReal :=
  plain (fun k => codeOf (a (ix2 r k))) h (bound h)

end Cert.Proof.Model
-- ==== Proof.Pass1Value.lean ====
/-
  What the first pass leaves in its two arrays, over the extended reals: the hidden activations and the adjacency
  matrix's words, each as a function of the arguments.
-/
module

public import proofs.«01_k».proof.Proof.Pass1Data
public import proofs.«01_k».proof.Proof.Model
public import Idealize.ShloMosaic.Lib.Pipeline.ValueKit

@[expose] public section

set_option maxRecDepth 16384

noncomputable section

namespace Cert.Proof.Pass1

open Cert.KernelIdeal Cert.KernelIdeal.Gen
open Idealize.ShloMosaic Idealize.ShloMosaic.TcCoe
open Idealize.ShloMosaic.Pipeline (Dat Cfg Window)
open Cert.Proof.Model
open scoped BigOperators

variable (V : (c : Dev nD) → (b : Ref sig .tc) → Buf (Elt Ideal) ((c : Thread nD τ).loc b))

/-- The first point's product is `x w₁`. -/
theorem pay1_apply (x : Vec Ideal S10000x256 .f32) (w : Vec Ideal S256x128 .f32) (r : Fin 10000) (k : Fin 128) :
    k0_pay1 (F := Ideal) x w (ix2 r k) = ∑ d : Fin 256, x (ix2 r d) * w (ix2 d k) := by
  unfold k0_pay1
  pointwise [dot_S10000x256_S256x128_S10000x128_1_0_0_1_n_n]

/-- Each point's block of the hidden product. -/
theorem pay2_apply (a : Vec Ideal S400x10000 .f32) (g : Vec Ideal S10000x128 .f32) (w : Vec Ideal S128x64 .f32) (r : Fin 400) (k : Fin 64) :
    k0_pay2 (F := Ideal) a g w (ix2 r k)
      = ∑ x : Fin 128, max (∑ l : Fin 10000, a (ix2 r l) * g (ix2 l x)) 0 * w (ix2 x k) := by
  unfold k0_pay2
  pointwise [dot_S400x10000_S10000x128_S400x128_1_0_0_1_n_n, dot_S400x128_S128x64_S400x64_1_0_0_1_n_n]

/-- Each point's block of words. -/
theorem pay3_apply (a : Vec Ideal S400x10000 .f32) (r : Fin 400) (k : Fin 10000) :
    k0_pay3 (F := Ideal) a (ix2 r k) = codeOf (a (ix2 r k)) := by
  unfold k0_pay3 codeOf
  pointwise
  rfl

/-- Row `r` of the block at point `t`. -/
def rowAt (t : Fin cfg0.N) (r : Fin 400) : Fin 10000 :=
  ⟨t.val * 400 + r.val, by have h := t.isLt; have e : cfg0.N = 25 := N_0; omega⟩

theorem index0 : ∀ t : Fin cfg0.N, win0_0.index t 0 = 0 ∧ win0_0.index t 1 = 0 := by decide +kernel
theorem index1 : ∀ t : Fin cfg0.N, win0_1.index t 0 = t.val ∧ win0_1.index t 1 = 0 := by decide +kernel
theorem index2 : ∀ t : Fin cfg0.N, win0_2.index t 0 = 0 ∧ win0_2.index t 1 = 0 := by decide +kernel
theorem index3 : ∀ t : Fin cfg0.N, win0_3.index t 0 = 0 ∧ win0_3.index t 1 = 0 := by decide +kernel
theorem index4 : ∀ t : Fin cfg0.N, win0_4.index t 0 = t.val ∧ win0_4.index t 1 = 0 := by decide +kernel
theorem index5 : ∀ t : Fin cfg0.N, win0_5.index t 0 = t.val ∧ win0_5.index t 1 = 0 := by decide +kernel

/-- The adjacency matrix's block at `t` holds its rows from `400 t` on. -/
theorem blk1_apply (c : Dev nD) (t : Fin cfg0.N) (r : Fin 400) (k : Fin 10000) :
    blk V c 1 t (ix2 r k) = V c main_arg1 (ix2 (rowAt t r) k) := by
  obtain ⟨e0, e1⟩ := index1 t
  unfold blk
  blk_simp
  refine congrArg (V c main_arg1) (funext fun a => Fin.ext ?_)
  fin_cases a
  · blk_simp; rw [e0]; rfl
  · blk_simp; rw [e1]; exact (Nat.zero_mul _).symm ▸ Nat.zero_add _

/-- The other three inputs are staged whole. -/
theorem blk0 (c : Dev nD) (t : Fin cfg0.N) : blk V c 0 t = V c main_arg0 := by
  obtain ⟨e0, e1⟩ := index0 t
  unfold blk
  funext j
  blk_simp
  refine congrArg (V c main_arg0) (funext fun a => Fin.ext ?_)
  fin_cases a
  · blk_simp; rw [e0]; exact (Nat.zero_mul _).symm ▸ Nat.zero_add _
  · blk_simp; rw [e1]; exact (Nat.zero_mul _).symm ▸ Nat.zero_add _

theorem blk2 (c : Dev nD) (t : Fin cfg0.N) : blk V c 2 t = V c main_arg2 := by
  obtain ⟨e0, e1⟩ := index2 t
  unfold blk
  funext j
  blk_simp
  refine congrArg (V c main_arg2) (funext fun a => Fin.ext ?_)
  fin_cases a
  · blk_simp; rw [e0]; exact (Nat.zero_mul _).symm ▸ Nat.zero_add _
  · blk_simp; rw [e1]; exact (Nat.zero_mul _).symm ▸ Nat.zero_add _

theorem blk3 (c : Dev nD) (t : Fin cfg0.N) : blk V c 3 t = V c main_arg3 := by
  obtain ⟨e0, e1⟩ := index3 t
  unfold blk
  funext j
  blk_simp
  refine congrArg (V c main_arg3) (funext fun a => Fin.ext ?_)
  fin_cases a
  · blk_simp; rw [e0]; exact (Nat.zero_mul _).symm ▸ Nat.zero_add _
  · blk_simp; rw [e1]; exact (Nat.zero_mul _).symm ▸ Nat.zero_add _

/-- Where an element of either output's block lies in its array. -/
theorem emb4 (t : Fin cfg0.N) (r : Fin 400) (k : Fin 64) : (win0_4.blk t).view.emb (ix2 r k) = ix2 (rowAt t r) k := by
  obtain ⟨e0, e1⟩ := index4 t
  refine funext fun a => Fin.ext ?_
  fin_cases a
  · blk_simp; rw [e0]; rfl
  · blk_simp; rw [e1]; exact (Nat.zero_mul _).symm ▸ Nat.zero_add _

theorem emb5 (t : Fin cfg0.N) (r : Fin 400) (k : Fin 10000) : (win0_5.blk t).view.emb (ix2 r k) = ix2 (rowAt t r) k := by
  obtain ⟨e0, e1⟩ := index5 t
  refine funext fun a => Fin.ext ?_
  fin_cases a
  · blk_simp; rw [e0]; rfl
  · blk_simp; rw [e1]; exact (Nat.zero_mul _).symm ▸ Nat.zero_add _

/-- The hidden activations the first pass leaves. -/
theorem arr4 (c : Dev nD) :
    (dat V c).arrAt 4 cfg0.N
      = fun j : S10000x64.Idx => hidden (V c main_arg0) (V c main_arg1) (V c main_arg2) (V c main_arg3) (j 0) (j 1) := by
  refine (dat V c).arrAt_eq_of_covers 4 _ (by decide +kernel) fun t hf y => ?_
  blk_simp
  rw [after_4]
  obtain ⟨r, k, rfl⟩ : ∃ (r : Fin 400) (k : Fin 64), y = ix2 r k := ⟨y 0, y 1, eq_ix2 y⟩
  rw [emb4 t r k]
  refine (pay2_apply _ _ _ r k).trans ?_
  unfold Model.hidden
  rw [blk3]
  refine Finset.sum_congr rfl fun x _ => ?_
  refine congrArg (· * _) (congrArg (max · 0) (Finset.sum_congr rfl fun l _ => ?_))
  rw [blk1_apply]
  refine congrArg (HMul.hMul (α := EReal) (β := EReal) (V c main_arg1 (ix2 (rowAt t r) l))) ?_
  unfold G
  rw [blk0, blk2]
  exact pay1_apply _ _ l x

/-- The words the first pass leaves. -/
theorem arr5 (c : Dev nD) :
    (dat V c).arrAt 5 cfg0.N = fun j : S10000x10000.Idx => codeOf (V c main_arg1 j) := by
  refine (dat V c).arrAt_eq_of_covers 5 _ (by decide +kernel) fun t hf y => ?_
  blk_simp
  rw [after_5]
  obtain ⟨r, k, rfl⟩ : ∃ (r : Fin 400) (k : Fin 10000), y = ix2 r k := ⟨y 0, y 1, eq_ix2 y⟩
  rw [emb5 t r k]
  refine (pay3_apply _ r k).trans ?_
  rw [blk1_apply]

end Cert.Proof.Pass1
-- ==== Proof.IntProduct.lean ====
/-
  The matrix product of 8-bit words into 32 bits, at an element, as sums over the one contracted coordinate.
-/
module

public import Idealize.ShloMosaic.Lib.IntMxu
public import Idealize.ShloMosaic.Lib.MatmulPlain

@[expose] public section

noncomputable section

namespace Cert.Proof.IntProduct

open Idealize.ShloMosaic
open Idealize.ShloMosaic.ValueIdx
open scoped BigOperators

variable {M K N : Nat} (a : IVec ⟨2, ![M, K]⟩ 8) (b : IVec ⟨2, ![K, N]⟩ 8) (r : Fin M) (c : Fin N)

theorem lhs_at (k : Fin K) : (DotDims.plain M K N).lhsIdx (ix2 r c) ((DotDims.plainContr M K N).symm k) = ix2 r k := by
  have hk := contrEquiv1_symm_val _ K (DotDims.plain_contr_rank M K N) (DotDims.plain_contr_size M K N) k
  funext x; apply Fin.ext
  match x with
  | ⟨0, _⟩ => rfl
  | ⟨1, _⟩ => exact hk

theorem rhs_at (k : Fin K) : (DotDims.plain M K N).rhsIdx (ix2 r c) ((DotDims.plainContr M K N).symm k) = ix2 k c := by
  have hk := contrEquiv1_symm_val _ K (DotDims.plain_contr_rank M K N) (DotDims.plain_contr_size M K N) k
  funext x; apply Fin.ext
  match x with
  | ⟨0, _⟩ => exact hk
  | ⟨1, _⟩ => rfl

theorem dot_apply : dotI8 (DotDims.plain M K N) a b (ix2 r c) = ∑ k : Fin K, (a (ix2 r k)).toInt * (b (ix2 k c)).toInt := by
  unfold dotI8
  rw [← Equiv.sum_comp (DotDims.plainContr M K N).symm]
  exact Finset.sum_congr rfl fun k _ => by rw [lhs_at, rhs_at]

theorem absDot_apply :
    absDotI8 (DotDims.plain M K N) a b (ix2 r c) = ∑ k : Fin K, ((a (ix2 r k)).toInt * (b (ix2 k c)).toInt).natAbs := by
  unfold absDotI8
  rw [← Equiv.sum_comp (DotDims.plainContr M K N).symm]
  exact Finset.sum_congr rfl fun k _ => by rw [lhs_at, rhs_at]

/-- Where the magnitudes total at most `2 ^ 26` the product's word is the exact whole-number product. -/
theorem toInt_apply (acc : IVec ⟨2, ![M, N]⟩ 32) (h0 : acc (ix2 r c) = 0)
    (h : ∑ k : Fin K, ((a (ix2 r k)).toInt * (b (ix2 k c)).toInt).natAbs ≤ 2 ^ 26) :
    (matmulI8 IntMxuNumerics.v5e (DotDims.plain M K N) a b acc (ix2 r c)).toInt
      = ∑ k : Fin K, (a (ix2 r k)).toInt * (b (ix2 k c)).toInt := by
  rw [matmulI8_toInt _ _ _ _ _ _ h0 (by rw [absDot_apply]; exact h), dot_apply]

end Cert.Proof.IntProduct
-- ==== Proof.Pass2Value.lean ====
/-
  What the second pass leaves in the result, over the extended reals, from what it finds in the words' and the hidden
  activations' arrays.
-/
module

public import proofs.«01_k».proof.Proof.Pass2Data
public import proofs.«01_k».proof.Proof.Model
public import proofs.«01_k».proof.Proof.IntProduct
public import Idealize.ShloMosaic.Lib.Pipeline.ValueKit
public import Idealize.ShloMosaic.PureOps.IdealRules

@[expose] public section

set_option maxRecDepth 16384

noncomputable section

namespace Cert.Proof.Pass2

open Cert.KernelIdeal Cert.KernelIdeal.Gen
open Idealize.ShloMosaic Idealize.ShloMosaic.TcCoe
open Idealize.ShloMosaic.Pipeline (Dat Cfg Window)
open Cert.Proof.Model Cert.Proof.Quantised
open scoped BigOperators

section Payloads

variable (h : Vec Ideal S10000x64 .f32)

/-- Column `c` of the activations. -/
abbrev col (c : Fin 64) (k : Fin 10000) : EReal := h (ix2 k c)

theorem pay2_apply (c : Fin 64) : k1_pay2 (F := Ideal) h (ix2 0 c) = scaleOf (bound (col h c)) := by
  unfold k1_pay2 k1_pay1 scaleOf bound
  pointwise
  rfl

theorem pay3_apply (r : Fin 10000) (c : Fin 64) :
    k1_pay3 (F := Ideal) h (ix2 r c) = level (col h c r) (scaleOf (bound (col h c))) := by
  rw [← pay2_apply]
  unfold k1_pay3 k1_pay1 level
  pointwise

theorem pay4_apply (r : Fin 10000) (c : Fin 64) :
    k1_pay4 (F := Ideal) h (ix2 r c) = word (col h c) (bound (col h c)) r := by
  unfold word
  rw [← pay3_apply]
  unfold k1_pay4
  pointwise
  rfl

theorem pay5_apply (c : Fin 64) :
    k1_pay5 (F := Ideal) h (ix2 0 c) = Ideal.div (scaleOf (bound (col h c))) (Ideal.ofBits .f32 0x437E0000#32) := by
  rw [← pay2_apply]
  unfold k1_pay5
  pointwise

theorem pay6_apply (c : Fin 64) :
    k1_pay6 (F := Ideal) h (ix2 0 c) = ((255 / 508 : ℝ) : EReal) * scaleOf (bound (col h c))
      * ∑ k, level (col h c k) (scaleOf (bound (col h c))) := by
  simp only [← pay3_apply]
  rw [← pay2_apply]
  unfold k1_pay6
  pointwise
  rw [IdealRules.named_const.ideal_named_scalar κ "half_step" (φ := .f32) 0x3F008102#32 ((255 / 508 : ℝ) : EReal) rfl]

/-- The product of a block of words with the levels' words. -/
def product (a : Vec Ideal S400x10000 .i8) (q : Vec Ideal S10000x64 .i8) : IVec S400x64 32 :=
  matmulI8 IntMxuNumerics.v5e dot_S400x10000_S10000x64_S400x64_1_0_0_1_n_n a q (constantI S400x64 32 0#32)

theorem pay7_apply (a : Vec Ideal S400x10000 .i8) (q : Vec Ideal S10000x64 .i8) (s e : Vec Ideal S1x64 .f32) (r : Fin 400) (c : Fin 64) :
    k1_pay7 (F := Ideal) a q s e (ix2 r c)
      = rowOut (fun x => (((product a q (ix2 r x)).toInt : ℝ) : EReal) * s (ix2 0 x) + e (ix2 0 x)) c := by
  unfold k1_pay7 rowOut product
  pointwise
  rfl

end Payloads

variable (V : (c : Dev nD) → (b : Ref sig .tc) → Buf (Elt Ideal) ((c : Thread nD τ).loc b))

/-- Row `r` of the block at point `t`. -/
def rowAt (t : Fin cfg1.N) (r : Fin 400) : Fin 10000 :=
  ⟨t.val * 400 + r.val, by have h := t.isLt; have e : cfg1.N = 25 := N_1; omega⟩

theorem index0 : ∀ t : Fin cfg1.N, win1_0.index t 0 = t.val ∧ win1_0.index t 1 = 0 := by decide +kernel
theorem index1 : ∀ t : Fin cfg1.N, win1_1.index t 0 = 0 ∧ win1_1.index t 1 = 0 := by decide +kernel
theorem index2 : ∀ t : Fin cfg1.N, win1_2.index t 0 = t.val ∧ win1_2.index t 1 = 0 := by decide +kernel

/-- The words' block at `t` holds their rows from `400 t` on. -/
theorem blk0_apply (c : Dev nD) (t : Fin cfg1.N) (r : Fin 400) (k : Fin 10000) :
    blk V c 0 t (ix2 r k) = V c main_v0_1 (ix2 (rowAt t r) k) := by
  obtain ⟨e0, e1⟩ := index0 t
  unfold blk
  blk_simp
  refine congrArg (V c main_v0_1) (funext fun a => Fin.ext ?_)
  fin_cases a
  · blk_simp; rw [e0]; rfl
  · blk_simp; rw [e1]; exact (Nat.zero_mul _).symm ▸ Nat.zero_add _

/-- The activations are staged whole. -/
theorem blk1 (c : Dev nD) (t : Fin cfg1.N) : blk V c 1 t = V c main_v0_0 := by
  obtain ⟨e0, e1⟩ := index1 t
  unfold blk
  funext j
  blk_simp
  refine congrArg (V c main_v0_0) (funext fun a => Fin.ext ?_)
  fin_cases a
  · blk_simp; rw [e0]; exact (Nat.zero_mul _).symm ▸ Nat.zero_add _
  · blk_simp; rw [e1]; exact (Nat.zero_mul _).symm ▸ Nat.zero_add _

/-- Where an element of the result's block lies in its array. -/
theorem emb2 (t : Fin cfg1.N) (r : Fin 400) (k : Fin 64) : (win1_2.blk t).view.emb (ix2 r k) = ix2 (rowAt t r) k := by
  obtain ⟨e0, e1⟩ := index2 t
  refine funext fun a => Fin.ext ?_
  fin_cases a
  · blk_simp; rw [e0]; rfl
  · blk_simp; rw [e1]; exact (Nat.zero_mul _).symm ▸ Nat.zero_add _

/-- The result the second pass leaves, where no row's weight passes the product's bound. -/
theorem arr2 (c : Dev nD) (a : Arr 10000 10000) (h : Fin 10000 → Fin 64 → EReal)
    (ha : V c main_v0_1 = fun j : S10000x10000.Idx => codeOf (a j))
    (hh : V c main_v0_0 = fun j : S10000x64.Idx => h (j 0) (j 1))
    (hw : ∀ (r : Fin 10000) (x : Fin 64), weight (fun k => codeOf (a (ix2 r k))) (fun k => h k x) (bound fun k => h k x)
      ≤ Ideal.ofBits .f32 0x4C800000#32) :
    (dat V c).arrAt 2 cfg1.N
      = fun j : S10000x64.Idx => rowOut (fun x => logit a (j 0) fun k => h k x) (j 1) := by
  refine (dat V c).arrAt_eq_of_covers 2 _ (by decide +kernel) fun t hf y => ?_
  blk_simp
  rw [after_2]
  obtain ⟨r, k, rfl⟩ : ∃ (r : Fin 400) (k : Fin 64), y = ix2 r k := ⟨y 0, y 1, eq_ix2 y⟩
  rw [emb2 t r k]
  refine (pay7_apply _ _ _ _ r k).trans ?_
  refine congrArg (rowOut · k) (funext fun x => ?_)
  have hcol : col (V c main_v0_0) x = fun k => h k x := by rw [hh]; rfl
  have eq : ∀ i : Fin 10000, Q V c (ix2 i x) = word (fun k => h k x) (bound fun k => h k x) i := fun i => by
    unfold Q; rw [blk1, pay4_apply, hcol]
  have es : S V c (ix2 0 x) = Ideal.div (scaleOf (bound fun k => h k x)) (Ideal.ofBits .f32 0x437E0000#32) := by
    unfold S; rw [blk1, pay5_apply, hcol]
  have ec : C V c (ix2 0 x) = ((255 / 508 : ℝ) : EReal) * scaleOf (bound fun k => h k x)
      * ∑ i, level (h i x) (scaleOf (bound fun k => h k x)) := by
    unfold C; rw [blk1, pay6_apply, hcol]
  have ea : ∀ i : Fin 10000, blk V c 0 t (ix2 r i) = codeOf (a (ix2 (rowAt t r) i)) := fun i => by
    rw [blk0_apply, ha]
  have hp : (product (blk V c 0 t) (Q V c) (ix2 r x)).toInt
      = ∑ i : Fin 10000, (codeOf (a (ix2 (rowAt t r) i))).toInt * (word (fun k => h k x) (bound fun k => h k x) i).toInt := by
    refine (IntProduct.toInt_apply (M := 400) (K := 10000) (N := 64) (blk V c 0 t) (Q V c) r x _ rfl ?_).trans ?_
    · refine le_trans (le_of_eq (Finset.sum_congr rfl fun i _ => ?_))
        (magnitude_le (bound_pos _) (le_bound _) (hw (rowAt t r) x))
      exact congrArg₂ (fun u v : BitVec 8 => (u.toInt * v.toInt).natAbs) (ea i) (eq i)
    · exact Finset.sum_congr rfl fun i _ => congrArg₂ (fun u v : BitVec 8 => u.toInt * v.toInt) (ea i) (eq i)
  rw [hp, es, ec]
  exact scaled_eq_plain (q := fun i => codeOf (a (ix2 (rowAt t r) i))) (bound_pos _) (le_bound _)

end Cert.Proof.Pass2
-- ==== Proof.ReferenceValue.lean ====
/-
  The reference's result, over the extended reals, as the same function of the arguments, and what the precondition says
  of them.
-/
module

public import proofs.«01_k».proof.Proof.Gen.ReferenceIdeal.Run
public import proofs.«01_k».proof.Proof.Gen.Pre_exact_product
public import proofs.«01_k».proof.Proof.Model

@[expose] public section

set_option maxRecDepth 16384

noncomputable section

namespace Cert.Proof.Ref

open Cert.ReferenceIdeal Cert.ReferenceIdeal.Gen
open Idealize.ShloMosaic Cert.Proof.Model Cert.Proof.Quantised
open scoped BigOperators

/-! The stages of the reference's composed term. -/

def hid (x : FVec Ideal S10000x256 .f32) (a : FVec Ideal S10000x10000 .f32) (w1 : FVec Ideal S256x128 .f32)
    (w2 : FVec Ideal S128x64 .f32) : FVec Ideal S10000x64 .f32 :=
  Host.dotGeneral dot_S10000x128_S128x64_S10000x64_1_0_0_1_n_n none
    (maximumf (Host.dotGeneral dot_S10000x10000_S10000x128_S10000x128_1_0_0_1_n_n none a
        (Host.dotGeneral dot_S10000x256_S256x128_S10000x128_1_0_0_1_n_n none x w1))
      (broadcastInDim S10000x128 ![] bcast_S_S10000x128 (constant S_ .f32 0x00000000#32))) w2

def scale (h : FVec Ideal S10000x64 .f32) : FVec Ideal S1x64 .f32 :=
  Host.divf (maximumf (broadcastInDim S1x64 ![1] bcast_S64_S1x64_1
        (Host.reduce FloatOps.maximumf (Host.absf h) (constant S_ .f32 0xFF800000#32) reducesTo_S10000x64_S64_d0 h_S_))
      (broadcastInDim S1x64 ![] bcast_S_S1x64 (constant S_ .f32 0x1E3CE508#32)))
    (broadcastInDim S1x64 ![] bcast_S_S1x64 (constant S_ .f32 0x42FE0000#32))

def levels (h : FVec Ideal S10000x64 .f32) : FVec Ideal S10000x64 .f32 :=
  Host.roundeven (Host.divf h (broadcastInDim S10000x64 ![0, 1] bcast_S1x64_S10000x64_0_1 (scale h)))

def deq (h : FVec Ideal S10000x64 .f32) : FVec Ideal S10000x64 .f32 :=
  mulf (levels h) (broadcastInDim S10000x64 ![0, 1] bcast_S1x64_S10000x64_0_1 (scale h))

def words (a : FVec Ideal S10000x10000 .f32) : FVec Ideal S10000x10000 .f32 :=
  sitofp .f32 (extsi 32 (trunci 8 (subi
    (fptosi 32 (mulf a (broadcastInDim S10000x10000 ![] bcast_S_S10000x10000 (constant S_ .f32 0x437E0000#32))))
    (broadcastInDim S10000x10000 ![] bcast_S_S10000x10000 (constantI S_ 32 127#32))) natLt_8_32) natLt_8_32)

def adj (a : FVec Ideal S10000x10000 .f32) : FVec Ideal S10000x10000 .f32 :=
  Host.divf (addf (words a) (broadcastInDim S10000x10000 ![] bcast_S_S10000x10000 (constant S_ .f32 0x42FF0000#32)))
    (broadcastInDim S10000x10000 ![] bcast_S_S10000x10000 (constant S_ .f32 0x437E0000#32))

def logits (a : FVec Ideal S10000x10000 .f32) (h : FVec Ideal S10000x64 .f32) : FVec Ideal S10000x64 .f32 :=
  Host.dotGeneral dot_S10000x10000_S10000x64_S10000x64_1_0_0_1_n_n none (adj a) (deq h)

def centred (z : FVec Ideal S10000x64 .f32) : FVec Ideal S10000x64 .f32 :=
  subf z (broadcastInDim S10000x64 ![0, 1] bcast_S10000x1_S10000x64_0_1 (broadcastInDim S10000x1 ![0] bcast_S10000_S10000x1_0
    (maximumf (broadcastInDim S10000 ![] bcast_S_S10000 (constant S_ .f32 0xFF800000#32))
      (Host.reduce FloatOps.maximumf z (constant S_ .f32 0xFF800000#32) reducesTo_S10000x64_S10000_d1 h_S_))))

def out (z : FVec Ideal S10000x64 .f32) : FVec Ideal S10000x64 .f32 :=
  subf (centred z) (broadcastInDim S10000x64 ![0, 1] bcast_S10000x1_S10000x64_0_1
    (Host.log (broadcastInDim S10000x1 ![0] bcast_S10000_S10000x1_0
      (Host.reduceAdd (Host.exp (centred z)) (constant S_ .f32 0x00000000#32) reducesTo_S10000x64_S10000_d1 h_S_))))

theorem res_eq (m : (ℓ : Loc nD τ sig) → Buf (Elt Ideal) ℓ) (c : Dev nD) :
    Cert.ReferenceIdeal.Value.res_main_v29 m c = out (logits (m ((c.tc : Thread nD τ).loc main_arg1))
      (hid (m ((c.tc : Thread nD τ).loc main_arg0)) (m ((c.tc : Thread nD τ).loc main_arg1))
        (m ((c.tc : Thread nD τ).loc main_arg2)) (m ((c.tc : Thread nD τ).loc main_arg3)))) := rfl

theorem hid_apply (x a w1 w2) (r : Fin 10000) (c : Fin 64) : hid x a w1 w2 (ix2 r c) = hidden x a w1 w2 r c := by
  unfold hid Model.hidden
  pointwise [dot_S10000x10000_S10000x128_S10000x128_1_0_0_1_n_n]

theorem scale_apply (h) (c : Fin 64) : scale h (ix2 0 c) = scaleOf (bound fun k => h (ix2 k c)) := by
  unfold scale scaleOf bound
  pointwise
  rfl

theorem levels_apply (h) (r : Fin 10000) (c : Fin 64) :
    levels h (ix2 r c) = level (h (ix2 r c)) (scaleOf (bound fun k => h (ix2 k c))) := by
  rw [← scale_apply]
  unfold levels level
  pointwise

theorem deq_apply (h) (r : Fin 10000) (c : Fin 64) :
    deq h (ix2 r c) = level (h (ix2 r c)) (scaleOf (bound fun k => h (ix2 k c))) * scaleOf (bound fun k => h (ix2 k c)) := by
  rw [← levels_apply, ← scale_apply]
  unfold deq
  pointwise

/-- Widening a word of 8 bits to 32 keeps its value. -/
theorem words_apply (a) (r c : Fin 10000) : words a (ix2 r c) = (((codeOf (a (ix2 r c))).toInt : ℝ) : EReal) := by
  unfold words
  pointwise
  show (((BitVec.signExtend 32 (codeOf (a (ix2 r c)))).toInt : ℝ) : EReal) = _
  rw [BitVec.toInt_signExtend_of_le (by decide)]

theorem adj_apply (a) (r c : Fin 10000) :
    adj a (ix2 r c) = Ideal.div ((((codeOf (a (ix2 r c))).toInt : ℝ) : EReal) + Ideal.ofBits .f32 0x42FF0000#32)
      (Ideal.ofBits .f32 0x437E0000#32) := by
  rw [← words_apply]
  unfold adj
  pointwise

theorem logits_apply (a h) (r : Fin 10000) (c : Fin 64) : logits a h (ix2 r c) = logit a r fun k => h (ix2 k c) := by
  unfold logit plain
  simp only [← adj_apply, ← deq_apply]
  unfold logits
  pointwise

theorem out_apply (z) (r : Fin 10000) (c : Fin 64) : out z (ix2 r c) = rowOut (fun x => z (ix2 r x)) c := by
  have e : max (Ideal.ofBits .f32 0xFF800000#32)
      (Finset.fold max (Ideal.ofBits .f32 0xFF800000#32) (fun x : Fin 64 => z (ix2 r x)) Finset.univ)
      = Finset.fold max (Ideal.ofBits .f32 0xFF800000#32) (fun x : Fin 64 => z (ix2 r x)) Finset.univ :=
    max_eq_right ((Finset.le_fold_max _).mpr (.inl le_rfl))
  unfold out centred rowOut
  pointwise
  rw [e]

/-- The reference's result. -/
theorem result (m : (ℓ : Loc nD τ sig) → Buf (Elt Ideal) ℓ) (c : Dev nD) (x : Arr 10000 256) (a : Arr 10000 10000)
    (w1 : Arr 256 128) (w2 : Arr 128 64) (hx : m ((c.tc : Thread nD τ).loc main_arg0) = x)
    (ha : m ((c.tc : Thread nD τ).loc main_arg1) = a) (h1 : m ((c.tc : Thread nD τ).loc main_arg2) = w1)
    (h2 : m ((c.tc : Thread nD τ).loc main_arg3) = w2) :
    Cert.ReferenceIdeal.Value.res_main_v29 m c
      = fun j : S10000x64.Idx => rowOut (fun y => logit a (j 0) fun k => hidden x a w1 w2 k y) (j 1) := by
  rw [res_eq, hx, ha, h1, h2]
  funext j
  obtain ⟨r, k, rfl⟩ : ∃ (r : Fin 10000) (k : Fin 64), j = ix2 r k := ⟨j 0, j 1, eq_ix2 j⟩
  rw [out_apply]
  refine congrArg (rowOut · k) (funext fun y => ?_)
  rw [logits_apply]
  exact congrArg (logit a r) (funext fun i => hid_apply x a w1 w2 i y)

/-! ## The precondition -/

def weights (a : FVec Ideal S10000x10000 .f32) (h : FVec Ideal S10000x64 .f32) : FVec Ideal S10000x64 .f32 :=
  Host.dotGeneral dot_S10000x10000_S10000x64_S10000x64_1_0_0_1_n_n none (Host.absf (words a)) (Host.absf (levels h))

/-- The precondition's composed term, in the reference's stages. -/
theorem pre_eq (x : Arr 10000 256) (a : Arr 10000 10000) (w1 : Arr 256 128) (w2 : Arr 128 64) :
    Cert.Pre_exact_product.fn (F := Ideal) x a w1 w2
      = cmpf .ole (weights a (hid x a w1 w2))
        (broadcastInDim S10000x64 ![] Cert.Pre_exact_product.Facts.bcast_S_S10000x64 (constant S_ .f32 0x4C800000#32)) := rfl

theorem weights_apply (a h) (r : Fin 10000) (c : Fin 64) :
    weights a h (ix2 r c)
      = weight (fun k => codeOf (a (ix2 r k))) (fun k => h (ix2 k c)) (bound fun k => h (ix2 k c)) := by
  unfold weight
  simp only [← words_apply, ← levels_apply]
  unfold weights
  pointwise
  rfl

/-- Under the precondition no row's weight passes the product's bound. -/
theorem weight_le (x : Arr 10000 256) (a : Arr 10000 10000) (w1 : Arr 256 128) (w2 : Arr 128 64)
    (h : Cert.Pre_exact_product.fn (F := Ideal) x a w1 w2 = fun _ => 1#1) (r : Fin 10000) (c : Fin 64) :
    weight (fun k => codeOf (a (ix2 r k))) (fun k => hidden x a w1 w2 k c) (bound fun k => hidden x a w1 w2 k c)
      ≤ Ideal.ofBits .f32 0x4C800000#32 := by
  have h1 := congrFun h (ix2 r c)
  rw [pre_eq] at h1
  have h2 : Ideal.cmp .ole (weights a (hid x a w1 w2) (ix2 r c)) (Ideal.ofBits .f32 0x4C800000#32) = 1#1 := h1
  rw [weights_apply] at h2
  simp only [hid_apply] at h2
  by_contra hn
  unfold Ideal.cmp at h2
  simp only [hn, decide_false] at h2
  exact absurd h2 (by decide)

end Cert.Proof.Ref
-- ==== Proof.lean ====
/-
  The proof of `Cert.Claim` (proofs.«01_k».proof.Defs): hand-written, untrusted.
-/
module

public import proofs.«01_k».proof.Defs
public import proofs.«01_k».proof.Proof.Gen.Kernel
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Regions
public import proofs.«01_k».proof.Proof.Gen.KernelIdeal.Points
public import proofs.«01_k».proof.Proof.Gen.Pre_exact_product
public import proofs.«01_k».proof.Proof.Gen.ReferenceIdeal.Run
public import proofs.«01_k».proof.Proof.SameProgram
public import proofs.«01_k».proof.Proof.Run
public import proofs.«01_k».proof.Proof.Pass1Value
public import proofs.«01_k».proof.Proof.Pass2Value
public import proofs.«01_k».proof.Proof.ReferenceValue
public import Idealize.ShloMosaic.Adequacy
public import Idealize.ShloMosaic.Init

@[expose] public section

noncomputable section

namespace Cert.Proof

open Idealize.ShloMosaic Idealize.ShloMosaic.TcCoe Idealize.SL.Sem
open Cert.KernelIdeal (main_arg0 main_arg1 main_arg2 main_arg3 main_v0_0 main_v0_1 main_v1)

section Kernel

variable {F : FTy → Type} [FloatOps F] [Named F]
  (m : (ℓ : Loc Cert.KernelIdeal.nD Cert.KernelIdeal.τ Cert.KernelIdeal.sig) → Buf (Elt F) ℓ)

/-- A buffer that neither pass writes ends as it was launched. -/
theorem kept {s} (h : Run.Final m s) (c : Dev Cert.KernelIdeal.nD) (b : Ref Cert.KernelIdeal.sig .tc) (hb : ¬ b.isScoped)
    (h0 : b ≠ main_v0_0) (h1 : b ≠ main_v0_1) (h2 : b ≠ main_v1) :
    s.mem ((c : Thread Cert.KernelIdeal.nD Cert.KernelIdeal.τ).loc b) = m ((c : Thread Cert.KernelIdeal.nD Cert.KernelIdeal.τ).loc b) :=
  (h c b (Finset.mem_filter.mpr ⟨Finset.mem_univ _, hb⟩)).trans ((Run.V2_of m c b h2).trans (Run.V1_of m c b h0 h1))

/-- So do the arguments. -/
theorem kept_args {s} (h : Run.Final m s) (c : Dev Cert.KernelIdeal.nD) :
    s.mem ((c : Thread Cert.KernelIdeal.nD Cert.KernelIdeal.τ).loc main_arg0) = m ((c : Thread Cert.KernelIdeal.nD Cert.KernelIdeal.τ).loc main_arg0)
    ∧ s.mem ((c : Thread Cert.KernelIdeal.nD Cert.KernelIdeal.τ).loc main_arg1) = m ((c : Thread Cert.KernelIdeal.nD Cert.KernelIdeal.τ).loc main_arg1)
    ∧ s.mem ((c : Thread Cert.KernelIdeal.nD Cert.KernelIdeal.τ).loc main_arg2) = m ((c : Thread Cert.KernelIdeal.nD Cert.KernelIdeal.τ).loc main_arg2)
    ∧ s.mem ((c : Thread Cert.KernelIdeal.nD Cert.KernelIdeal.τ).loc main_arg3) = m ((c : Thread Cert.KernelIdeal.nD Cert.KernelIdeal.τ).loc main_arg3) :=
  ⟨kept m h c main_arg0 (by decide) (by decide) (by decide) (by decide), kept m h c main_arg1 (by decide) (by decide) (by decide) (by decide),
    kept m h c main_arg2 (by decide) (by decide) (by decide) (by decide), kept m h c main_arg3 (by decide) (by decide) (by decide) (by decide)⟩

end Kernel

/-! ## The frames -/

/-- The run leaves the arguments as launched and every counter at zero, at any float values. -/
theorem frame {F : FTy → Type} [FloatOps F] [Named F] (m : (ℓ : Loc Cert.KernelIdeal.nD Cert.KernelIdeal.τ Cert.KernelIdeal.sig) → Buf (Elt F) ℓ)
    (ρ : Dev Cert.KernelIdeal.nD → PrngReg) :
    θ_run (Cert.KernelIdeal.defs (F := F)) (onTc (τ := Cert.KernelIdeal.τ) (Cert.KernelIdeal.main (F := F))) ⟨m, fun _ => 0, ρ⟩ (fun r =>
      (∀ c : Dev Cert.KernelIdeal.nD,
        r.2.mem ((c : Thread Cert.KernelIdeal.nD Cert.KernelIdeal.τ).loc main_arg0) = m ((c : Thread Cert.KernelIdeal.nD Cert.KernelIdeal.τ).loc main_arg0)
        ∧ r.2.mem ((c : Thread Cert.KernelIdeal.nD Cert.KernelIdeal.τ).loc main_arg1) = m ((c : Thread Cert.KernelIdeal.nD Cert.KernelIdeal.τ).loc main_arg1)
        ∧ r.2.mem ((c : Thread Cert.KernelIdeal.nD Cert.KernelIdeal.τ).loc main_arg2) = m ((c : Thread Cert.KernelIdeal.nD Cert.KernelIdeal.τ).loc main_arg2)
        ∧ r.2.mem ((c : Thread Cert.KernelIdeal.nD Cert.KernelIdeal.τ).loc main_arg3) = m ((c : Thread Cert.KernelIdeal.nD Cert.KernelIdeal.τ).loc main_arg3))
      ∧ r.2.sem = fun _ => 0) :=
  (θ_run Cert.KernelIdeal.defs _ _).mono (fun _ h => ⟨fun c => kept_args m h.1 c, h.2⟩) (Run.run_main m ρ)

theorem frame_ideal : Cert.quiescent_KernelIdeal := fun m ρ _ => frame m ρ

/-- At the floats' words the printed kernel and its idealisation are one program, so the same run gives the frame. -/
theorem frame_kernel : Cert.quiescent_Kernel := fun m ρ _ => by
  have h := @frame Bits _ Same.ownWord m ρ
  rw [← Same.table] at h
  exact h

/-- The name that the idealisation gives a constant stands for 255/508. -/
theorem preserves : Cert.preserves_Kernel_KernelIdeal :=
  IdealRules.named_const.statement Cert.KernelIdeal.κ "half_step" .f32 0x3F008102#32 ((255 / 508 : ℝ) : EReal) rfl

theorem frame_reference : Cert.quiescent_ReferenceIdeal := fun m ρ _ =>
  (θ_run Cert.ReferenceIdeal.defs _ _).mono
    (fun r h => ⟨fun c => (h c).2, sem_eq_zero_of_no_sems (by decide) r.2⟩)
    (Cert.ReferenceIdeal.Value.run (F := Ideal) m ρ)

/-! ## The value -/

section Value

variable (m : (ℓ : Loc Cert.KernelIdeal.nD Cert.KernelIdeal.τ Cert.KernelIdeal.sig) → Buf (Elt Ideal) ℓ)

/-- The result as a function of the arguments. -/
def value (c : Dev Cert.KernelIdeal.nD) : Buf (Elt Ideal) ((c : Thread Cert.KernelIdeal.nD Cert.KernelIdeal.τ).loc main_v1) :=
  fun j : Cert.KernelIdeal.S10000x64.Idx => Model.rowOut (fun y => Model.logit (Run.V0 m c main_arg1) (j 0)
    fun k => Model.hidden (Run.V0 m c main_arg0) (Run.V0 m c main_arg1) (Run.V0 m c main_arg2) (Run.V0 m c main_arg3) k y) (j 1)

/-- Under the precondition the two passes leave that in the result. -/
theorem res_eq (c : Dev Cert.KernelIdeal.nD)
    (hp : Cert.Pre_exact_product.fn (F := Ideal) (Run.V0 m c main_arg0) (Run.V0 m c main_arg1) (Run.V0 m c main_arg2) (Run.V0 m c main_arg3)
      = fun _ => 1#1) : Run.res m c = value m c :=
  Pass2.arr2 (Run.V1 m) c (Run.V0 m c main_arg1)
    (fun k y => Model.hidden (Run.V0 m c main_arg0) (Run.V0 m c main_arg1) (Run.V0 m c main_arg2) (Run.V0 m c main_arg3) k y)
    ((Run.V1_code m c).trans (Pass1.arr5 (Run.V0 m) c)) ((Run.V1_hid m c).trans (Pass1.arr4 (Run.V0 m) c))
    (fun r x => Ref.weight_le _ _ _ _ hp r x)

end Value

theorem algebraic : Cert.algebraic_KernelIdeal_ReferenceIdeal_pre_exact_product := by
  intro m ρ m' ρ' hpre hagree
  refine ⟨value m, ?_, ?_⟩
  · refine (θ_run Cert.KernelIdeal.defs _ _).mono (fun _ h c => ⟨?_, kept_args m h.1 c⟩) (Run.run_main (F := Ideal) m ρ)
    exact (h.1 c main_v1 (Finset.mem_filter.mpr ⟨Finset.mem_univ _, by decide⟩)).trans
      ((Run.V2_res m c).trans (res_eq m c (hpre c)))
  · refine (θ_run Cert.ReferenceIdeal.defs _ _).mono (fun _ h c => ⟨(h c).1.trans ?_, (h c).2⟩)
      (Cert.ReferenceIdeal.Value.run (F := Ideal) m' ρ')
    obtain ⟨h0, h1, h2, h3⟩ := hagree c
    exact Ref.result m' c _ _ _ _ h0 h1 h2 h3

theorem claim : Cert.Claim :=
  ⟨Cert.Kernel.Gen.facts, Cert.KernelIdeal.Gen.facts, Cert.ReferenceIdeal.Gen.facts, Cert.Pre_exact_product.Gen.facts,
    frame_kernel, frame_ideal, fun m ρ _ => frame_ideal m ρ trivial, frame_reference,
    fun m ρ _ => frame_reference m ρ trivial, preserves, algebraic⟩

end Cert.Proof

end
